-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v45) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v35)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v35) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v61) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v25_0)) (v1 : (c : Dev Cert.InprojIdeal.nD) → Buf (Elt Ideal) ((c.tc : Thread Cert.InprojIdeal.nD Cert.InprojIdeal.τ).loc Cert.InprojIdeal.main_v25_1)) (v2 : (c : Dev Cert.InprojIdeal.nD) → Buf (Elt Ideal) ((c.tc : Thread Cert.InprojIdeal.nD Cert.InprojIdeal.τ).loc Cert.InprojIdeal.main_v25_2)) (v3 : (c : Dev Cert.InprojIdeal.nD) → Buf (Elt Ideal) ((c.tc : Thread Cert.InprojIdeal.nD Cert.InprojIdeal.τ).loc Cert.InprojIdeal.main_v25_3)) (v4 : (c : Dev Cert.InprojIdeal.nD) → Buf (Elt Ideal) ((c.tc : Thread Cert.InprojIdeal.nD Cert.InprojIdeal.τ).loc Cert.InprojIdeal.main_v25_4)) (v5 : (c : Dev Cert.InprojIdeal.nD) → Buf (Elt Ideal) ((c.tc : Thread Cert.InprojIdeal.nD Cert.InprojIdeal.τ).loc Cert.InprojIdeal.main_v25_5)) (v6 : (c : Dev Cert.InprojIdeal.nD) → Buf (Elt Ideal) ((c.tc : Thread Cert.InprojIdeal.nD Cert.InprojIdeal.τ).loc Cert.InprojIdeal.main_v25_6)) (v7 : (c : Dev Cert.InprojIdeal.nD) → Buf (Elt Ideal) ((c.tc : Thread Cert.InprojIdeal.nD Cert.InprojIdeal.τ).loc Cert.InprojIdeal.main_v25_7)) (v8 : (c : Dev Cert.InprojIdeal.nD) → Buf (Elt Ideal) ((c.tc : Thread Cert.InprojIdeal.nD Cert.InprojIdeal.τ).loc Cert.InprojIdeal.main_v25_8)) (v9 : (c : Dev Cert.InprojIdeal.nD) → Buf (Elt Ideal) ((c.tc : Thread Cert.InprojIdeal.nD Cert.InprojIdeal.τ).loc Cert.InprojIdeal.main_v25_9)) (v10 : (c : Dev Cert.InprojIdeal.nD) → Buf (Elt Ideal) ((c.tc : Thread Cert.InprojIdeal.nD Cert.InprojIdeal.τ).loc Cert.InprojIdeal.main_v25_10)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v25_0) = v0 c
          ∧ r.2.mem ((c.tc : Thread Cert.InprojIdeal.nD Cert.InprojIdeal.τ).loc Cert.InprojIdeal.main_v25_1) = v1 c
          ∧ r.2.mem ((c.tc : Thread Cert.InprojIdeal.nD Cert.InprojIdeal.τ).loc Cert.InprojIdeal.main_v25_2) = v2 c
          ∧ r.2.mem ((c.tc : Thread Cert.InprojIdeal.nD Cert.InprojIdeal.τ).loc Cert.InprojIdeal.main_v25_3) = v3 c
          ∧ r.2.mem ((c.tc : Thread Cert.InprojIdeal.nD Cert.InprojIdeal.τ).loc Cert.InprojIdeal.main_v25_4) = v4 c
          ∧ r.2.mem ((c.tc : Thread Cert.InprojIdeal.nD Cert.InprojIdeal.τ).loc Cert.InprojIdeal.main_v25_5) = v5 c
          ∧ r.2.mem ((c.tc : Thread Cert.InprojIdeal.nD Cert.InprojIdeal.τ).loc Cert.InprojIdeal.main_v25_6) = v6 c
          ∧ r.2.mem ((c.tc : Thread Cert.InprojIdeal.nD Cert.InprojIdeal.τ).loc Cert.InprojIdeal.main_v25_7) = v7 c
          ∧ r.2.mem ((c.tc : Thread Cert.InprojIdeal.nD Cert.InprojIdeal.τ).loc Cert.InprojIdeal.main_v25_8) = v8 c
          ∧ r.2.mem ((c.tc : Thread Cert.InprojIdeal.nD Cert.InprojIdeal.τ).loc Cert.InprojIdeal.main_v25_9) = v9 c
          ∧ r.2.mem ((c.tc : Thread Cert.InprojIdeal.nD Cert.InprojIdeal.τ).loc Cert.InprojIdeal.main_v25_10) = v10 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v47) = v0 c
          ∧ r.2.mem ((c.tc : Thread Cert.InprojReferenceIdeal.nD Cert.InprojReferenceIdeal.τ).loc Cert.InprojReferenceIdeal.main_v48) = v1 c
          ∧ r.2.mem ((c.tc : Thread Cert.InprojReferenceIdeal.nD Cert.InprojReferenceIdeal.τ).loc Cert.InprojReferenceIdeal.main_v49) = v2 c
          ∧ r.2.mem ((c.tc : Thread Cert.InprojReferenceIdeal.nD Cert.InprojReferenceIdeal.τ).loc Cert.InprojReferenceIdeal.main_v50) = v3 c
          ∧ r.2.mem ((c.tc : Thread Cert.InprojReferenceIdeal.nD Cert.InprojReferenceIdeal.τ).loc Cert.InprojReferenceIdeal.main_v51) = v4 c
          ∧ r.2.mem ((c.tc : Thread Cert.InprojReferenceIdeal.nD Cert.InprojReferenceIdeal.τ).loc Cert.InprojReferenceIdeal.main_v52) = v5 c
          ∧ r.2.mem ((c.tc : Thread Cert.InprojReferenceIdeal.nD Cert.InprojReferenceIdeal.τ).loc Cert.InprojReferenceIdeal.main_v56) = v6 c
          ∧ r.2.mem ((c.tc : Thread Cert.InprojReferenceIdeal.nD Cert.InprojReferenceIdeal.τ).loc Cert.InprojReferenceIdeal.main_v44) = v7 c
          ∧ r.2.mem ((c.tc : Thread Cert.InprojReferenceIdeal.nD Cert.InprojReferenceIdeal.τ).loc Cert.InprojReferenceIdeal.main_v57) = v8 c
          ∧ r.2.mem ((c.tc : Thread Cert.InprojReferenceIdeal.nD Cert.InprojReferenceIdeal.τ).loc Cert.InprojReferenceIdeal.main_v58) = v9 c
          ∧ r.2.mem ((c.tc : Thread Cert.InprojReferenceIdeal.nD Cert.InprojReferenceIdeal.τ).loc Cert.InprojReferenceIdeal.main_v59) = v10 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMerge : Cert.Merge.Facts) (hMergeIdeal : Cert.MergeIdeal.Facts) (hMergeReferenceIdeal : Cert.MergeReferenceIdeal.Facts) (hInproj : Cert.Inproj.Facts) (hInprojIdeal : Cert.InprojIdeal.Facts) (hInprojReferenceIdeal : Cert.InprojReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Merge_MergeIdeal
    ∧ algebraic_MergeIdeal_MergeReferenceIdeal (hMergeIdeal := hMergeIdeal) (hMergeReferenceIdeal := hMergeReferenceIdeal)
    ∧ preserves_Inproj_InprojIdeal
    ∧ algebraic_InprojIdeal_InprojReferenceIdeal (hInprojIdeal := hInprojIdeal) (hInprojReferenceIdeal := hInprojReferenceIdeal)
-- ==== Pre_finite.lean ====
abbrev S4x8192x8x64 : Shape := ⟨4, ![4, 8192, 8, 64]⟩
abbrev S4x8192x8 : Shape := ⟨3, ![4, 8192, 8]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x8 : S_.BroadcastsInDim S4x8192x8 (![] : Fin 0 → Fin S4x8192x8.rank)
  reducesTo_S4x8192x8_S_d0_1_2 : S4x8192x8.ReducesTo [0, 1, 2] S_

variable [Facts]

def fn {F : FTy → Type} [FloatOps F] (main_arg0 : FVec F S4x8192x8x64 .f32) (main_arg1 : FVec F S4x8192x8x64 .f32) (main_arg2 : FVec F S4x8192x8x64 .f32) (main_arg3 : FVec F S4x8192x8 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x8x64 .f32 := Host.absf main_arg1
  let main_cst_0 : FVec F S_ .f32 := constant S_ .f32 0x7F800000#32
  let main_v5 : FVec F S4x8192x8x64 .f32 := broadcastInDim S4x8192x8x64 ![] bcast_S_S4x8192x8x64 main_cst_0
  let main_v6 : IVec S4x8192x8x64 1 := cmpf .olt main_v4 main_v5
  let main_c_1 : IVec S_ 1 := constantI S_ 1 1#1
  let main_v7 : IVec S_ 1 := (fun x v => Host.reduce IntOp.andi x v reducesTo_S4x8192x8x64_S_d0_1_2_3 h_S_) main_v6 main_c_1
  let main_v8 : IVec S_ 1 := andi main_v3 main_v7
  let main_v9 : FVec F S4x8192x8 .f32 := Host.absf main_arg3
  let main_cst_2 : FVec F S_ .f32 := constant S_ .f32 0x7F800000#32
  let main_v10 : FVec F S4x8192x8 .f32 := broadcastInDim S4x8192x8 ![] bcast_S_S4x8192x8 main_cst_2
  let main_v11 : IVec S4x8192x8 1 := cmpf .olt main_v9 main_v10
  let main_c_3 : IVec S_ 1 := constantI S_ 1 1#1
  let main_v12 : IVec S_ 1 := (fun x v => Host.reduce IntOp.andi x v reducesTo_S4x8192x8_S_d0_1_2 h_S_) main_v11 main_c_3
  let main_v13 : IVec S_ 1 := andi main_v8 main_v12
  main_v13
-- ==== Kernel.lean ====
abbrev S4x8192x8x64 : Shape := ⟨4, ![4, 8192, 8, 64]⟩
abbrev S4x8192x8 : Shape := ⟨3, ![4, 8192, 8]⟩
abbrev S32768x512 : Shape := ⟨2, ![32768, 512]⟩
abbrev S_ : Shape := ⟨0, ![]⟩
abbrev S32768x8 : Shape := ⟨2, ![32768, 8]⟩
abbrev S32768x128 : Shape := ⟨2, ![32768, 128]⟩
abbrev S4x8x64x8192 : Shape := ⟨4, ![4, 8, 64, 8192]⟩
abbrev S4x512x8192 : Shape := ⟨3, ![4, 512, 8192]⟩
abbrev S128x32768 : Shape := ⟨2, ![128, 32768]⟩
abbrev S512x128 : Shape := ⟨2, ![512, 128]⟩
abbrev S1x128x8192 : Shape := ⟨3, ![1, 128, 8192]⟩
abbrev S8x8192 : Shape := ⟨2, ![8, 8192]⟩
abbrev S256x8192 : Shape := ⟨2, ![256, 8192]⟩
abbrev S144x8192 : Shape := ⟨2, ![144, 8192]⟩
abbrev S128x8192 : Shape := ⟨2, ![128, 8192]⟩
abbrev S16x8192 : Shape := ⟨2, ![16, 8192]⟩
abbrev S1x8192 : Shape := ⟨2, ![1, 8192]⟩
abbrev S112x8192 : Shape := ⟨2, ![112, 8192]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S256x1024 : Shape := ⟨2, ![256, 1024]⟩
abbrev S144x1024 : Shape := ⟨2, ![144, 1024]⟩
abbrev S512x1024 : Shape := ⟨2, ![512, 1024]⟩
abbrev S512x144 : Shape := ⟨2, ![512, 144]⟩
abbrev S256x512 : Shape := ⟨2, ![256, 512]⟩
abbrev S144x512 : Shape := ⟨2, ![144, 512]⟩

abbrev nBuf : Space → Nat
  | .hbm => 22
  | .vmem => 14
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x64, .f32⟩
  | .hbm, ⟨2, _⟩ => ⟨S4x8192x8x64, .f32⟩
  | .hbm, ⟨3, _⟩ => ⟨S4x8192x8, .f32⟩
  | .hbm, ⟨4, _⟩ => ⟨S32768x512, .f32⟩
  | .hbm, ⟨5, _⟩ => ⟨S_, .f32⟩
  | .hbm, ⟨6, _⟩ => ⟨S32768x512, .f32⟩
  | .hbm, ⟨7, _⟩ => ⟨S32768x512, .f32⟩
  | .hbm, ⟨8, _⟩ => ⟨S32768x512, .bf16⟩
  | .hbm, ⟨9, _⟩ => ⟨S_, .f32⟩
  | .hbm, ⟨10, _⟩ => ⟨S_, .f32⟩
  | .hbm, ⟨11, _⟩ => ⟨S4x8192x8, .f32⟩
  | .hbm, ⟨12, _⟩ => ⟨S32768x8, .f32⟩
  | .hbm, ⟨13, _⟩ => ⟨S_, .i32⟩
  | .hbm, ⟨14, _⟩ => ⟨S_, .f32⟩
  | .hbm, ⟨15, _⟩ => ⟨S32768x128, .f32⟩
  | .hbm, ⟨16, _⟩ => ⟨S4x8x64x8192, .f32⟩
  | .hbm, ⟨17, _⟩ => ⟨S4x512x8192, .f32⟩
  | .hbm, ⟨18, _⟩ => ⟨S4x8x64x8192, .f32⟩
  | .hbm, ⟨19, _⟩ => ⟨S4x512x8192, .f32⟩
  | .hbm, ⟨20, _⟩ => ⟨S128x32768, .f32⟩
  | .hbm, ⟨21, _⟩ => ⟨S32768x512, .bf16⟩
  | .local _ .vmem, ⟨0, _⟩ => ⟨S512x128, .bf16⟩
  | .local _ .vmem, ⟨1, _⟩ => ⟨S512x128, .bf16⟩
  | .local _ .vmem, ⟨2, _⟩ => ⟨S1x128x8192, .f32⟩
  | .local _ .vmem, ⟨3, _⟩ => ⟨S1x128x8192, .f32⟩
  | .local _ .vmem, ⟨4, _⟩ => ⟨S1x128x8192, .f32⟩
  | .local _ .vmem, ⟨5, _⟩ => ⟨S1x128x8192, .f32⟩
  | .local _ .vmem, ⟨6, _⟩ => ⟨S512x128, .f32⟩
  | .local _ .vmem, ⟨7, _⟩ => ⟨S512x128, .f32⟩
  | .local _ .vmem, ⟨8, _⟩ => ⟨S8x8192, .f32⟩
  | .local _ .vmem, ⟨9, _⟩ => ⟨S8x8192, .f32⟩
  | .local _ .vmem, ⟨10, _⟩ => ⟨S512x128, .bf16⟩
  | .local _ .vmem, ⟨11, _⟩ => ⟨S512x128, .bf16⟩
  | .local _ .vmem, ⟨12, _⟩ => ⟨S256x8192, .bf16⟩
  | .local _ .vmem, ⟨13, _⟩ => ⟨S144x8192, .bf16⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) (c0_i32_72 : BitVec 32) : Fin 2 → Nat :=
  let arg1 : BitVec 32 := BitVec.ofNat 32 (i 1).val
  let c2_i32_71 : BitVec 32 := 2#32
  let v213 : BitVec 32 := Scalar.muli arg1 c2_i32_71
  let v214 : BitVec 32 := Scalar.addi v213 c0_i32_72
  let v215 : Index := Scalar.indexCast v214
  let c0_73 : Index := 0#32
  ![v215.toNat, 0]
@[reducible] def k0_t1_loop (i : grid0.Coords) : Scf.Loop 32 :=
  let c0_i32_34 : BitVec 32 := 0#32
  let arg2 : BitVec 32 := BitVec.ofNat 32 (i 2).val
  let c0_i32_28 : BitVec 32 := 0#32
  let v102 : BitVec 1 := Scalar.cmpi .sgt arg2 c0_i32_28
  let v103 : BitVec 32 := Scalar.extui v102
  let c0_i32_29 : BitVec 32 := 0#32
  let v104 : BitVec 1 := Scalar.cmpi .slt arg2 c0_i32_29
  let v105 : BitVec 32 := Scalar.extui v104
  let v106 : BitVec 32 := Scalar.subi v103 v105
  let c2_i32_27 : BitVec 32 := 2#32
  let c0_i32_30 : BitVec 32 := 0#32
  let v107 : BitVec 1 := Scalar.cmpi .sgt c2_i32_27 c0_i32_30
  let v108 : BitVec 32 := Scalar.extui v107
  let c0_i32_31 : BitVec 32 := 0#32
  let v109 : BitVec 1 := Scalar.cmpi .slt c2_i32_27 c0_i32_31
  let v110 : BitVec 32 := Scalar.extui v109
  let v111 : BitVec 32 := Scalar.subi v108 v110
  let v112 : BitVec 1 := Scalar.cmpi .ne v106 v111
  let v113 : BitVec 32 := Scalar.remsi arg2 c2_i32_27
  let c0_i32_32 : BitVec 32 := 0#32
  let v114 : BitVec 1 := Scalar.cmpi .ne v113 c0_i32_32
  let v115 : BitVec 1 := Scalar.andi v112 v114
  let v101 : BitVec 32 := Scalar.divsi arg2 c2_i32_27
  let c1_i32_33 : BitVec 32 := 1#32
  let v116 : BitVec 32 := Scalar.subi v101 c1_i32_33
  let v117 : BitVec 32 := Scalar.select v115 v116 v101
  let v118 : BitVec 32 := Scalar.subi v117 c0_i32_34
  let c1_i32_35 : BitVec 32 := 1#32
  let v120 : BitVec 32 := Scalar.divsi v118 c1_i32_35
  let v121 : BitVec 32 := Scalar.muli v120 c1_i32_35
  let v122 : BitVec 32 := Scalar.addi c0_i32_34 v121
  let c1_i32_36 : BitVec 32 := 1#32
  ⟨c0_i32_34, v122, c1_i32_36⟩
def k0_mult1 (i : grid0.Coords) (k0_t1 : Fin (k0_t1_loop i).trips) : BitVec 32 :=
  let c0_i32_34 : BitVec 32 := 0#32
  let c1_i32_36 : BitVec 32 := 1#32
  let arg11 : BitVec 32 := Scf.iv c0_i32_34 c1_i32_36 k0_t1
  let c1024_i32 : BitVec 32 := 1024#32
  let v195 : BitVec 32 := Scalar.muli arg11 c1024_i32
  v195
def k0_off2 (i : grid0.Coords) (k0_t1 : Fin (k0_t1_loop i).trips) : Fin 2 → Nat :=
  let c0_58 : Index := 0#32
  let c0_i32_34 : BitVec 32 := 0#32
  let c1_i32_36 : BitVec 32 := 1#32
  let arg11 : BitVec 32 := Scf.iv c0_i32_34 c1_i32_36 k0_t1
  let c1024_i32 : BitVec 32 := 1024#32
  let v195 : BitVec 32 := Scalar.muli arg11 c1024_i32
  let v196 : BitVec 32 := v195
  let v197 : Index := Scalar.indexCast v196
  ![0, v197.toNat]
def k0_off3 (i : grid0.Coords) (k0_t1 : Fin (k0_t1_loop i).trips) : Fin 2 → Nat :=
  let c0_59 : Index := 0#32
  let c0_i32_34 : BitVec 32 := 0#32
  let c1_i32_36 : BitVec 32 := 1#32
  let arg11 : BitVec 32 := Scf.iv c0_i32_34 c1_i32_36 k0_t1
  let c1024_i32 : BitVec 32 := 1024#32
  let v195 : BitVec 32 := Scalar.muli arg11 c1024_i32
  let v196 : BitVec 32 := v195
  let v199 : Index := Scalar.indexCast v196
  ![0, v199.toNat]
@[reducible] def k0_t2_loop (i : grid0.Coords) : Scf.Loop 32 :=
  let c0_i32_34 : BitVec 32 := 0#32
  let arg2 : BitVec 32 := BitVec.ofNat 32 (i 2).val
  let c0_i32_28 : BitVec 32 := 0#32
  let v102 : BitVec 1 := Scalar.cmpi .sgt arg2 c0_i32_28
  let v103 : BitVec 32 := Scalar.extui v102
  let c0_i32_29 : BitVec 32 := 0#32
  let v104 : BitVec 1 := Scalar.cmpi .slt arg2 c0_i32_29
  let v105 : BitVec 32 := Scalar.extui v104
  let v106 : BitVec 32 := Scalar.subi v103 v105
  let c2_i32_27 : BitVec 32 := 2#32
  let c0_i32_30 : BitVec 32 := 0#32
  let v107 : BitVec 1 := Scalar.cmpi .sgt c2_i32_27 c0_i32_30
  let v108 : BitVec 32 := Scalar.extui v107
  let c0_i32_31 : BitVec 32 := 0#32
  let v109 : BitVec 1 := Scalar.cmpi .slt c2_i32_27 c0_i32_31
  let v110 : BitVec 32 := Scalar.extui v109
  let v111 : BitVec 32 := Scalar.subi v108 v110
  let v112 : BitVec 1 := Scalar.cmpi .ne v106 v111
  let v113 : BitVec 32 := Scalar.remsi arg2 c2_i32_27
  let c0_i32_32 : BitVec 32 := 0#32
  let v114 : BitVec 1 := Scalar.cmpi .ne v113 c0_i32_32
  let v115 : BitVec 1 := Scalar.andi v112 v114
  let v101 : BitVec 32 := Scalar.divsi arg2 c2_i32_27
  let c1_i32_33 : BitVec 32 := 1#32
  let v116 : BitVec 32 := Scalar.subi v101 c1_i32_33
  let v117 : BitVec 32 := Scalar.select v115 v116 v101
  let v118 : BitVec 32 := Scalar.subi v117 c0_i32_34
  let c1_i32_35 : BitVec 32 := 1#32
  let v120 : BitVec 32 := Scalar.divsi v118 c1_i32_35
  let v121 : BitVec 32 := Scalar.muli v120 c1_i32_35
  let v122 : BitVec 32 := Scalar.addi c0_i32_34 v121
  let v119 : BitVec 32 := Scalar.addi c0_i32_34 v118
  let c1_i32_37 : BitVec 32 := 1#32
  ⟨v122, v119, c1_i32_37⟩
def k0_mult2 (i : grid0.Coords) (k0_t2 : Fin (k0_t2_loop i).trips) : BitVec 32 :=
  let c0_i32_34 : BitVec 32 := 0#32
  let arg2 : BitVec 32 := BitVec.ofNat 32 (i 2).val
  let c0_i32_28 : BitVec 32 := 0#32
  let v102 : BitVec 1 := Scalar.cmpi .sgt arg2 c0_i32_28
  let v103 : BitVec 32 := Scalar.extui v102
  let c0_i32_29 : BitVec 32 := 0#32
  let v104 : BitVec 1 := Scalar.cmpi .slt arg2 c0_i32_29
  let v105 : BitVec 32 := Scalar.extui v104
  let v106 : BitVec 32 := Scalar.subi v103 v105
  let c2_i32_27 : BitVec 32 := 2#32
  let c0_i32_30 : BitVec 32 := 0#32
  let v107 : BitVec 1 := Scalar.cmpi .sgt c2_i32_27 c0_i32_30
  let v108 : BitVec 32 := Scalar.extui v107
  let c0_i32_31 : BitVec 32 := 0#32
  let v109 : BitVec 1 := Scalar.cmpi .slt c2_i32_27 c0_i32_31
  let v110 : BitVec 32 := Scalar.extui v109
  let v111 : BitVec 32 := Scalar.subi v108 v110
  let v112 : BitVec 1 := Scalar.cmpi .ne v106 v111
  let v113 : BitVec 32 := Scalar.remsi arg2 c2_i32_27
  let c0_i32_32 : BitVec 32 := 0#32
  let v114 : BitVec 1 := Scalar.cmpi .ne v113 c0_i32_32
  let v115 : BitVec 1 := Scalar.andi v112 v114
  let v101 : BitVec 32 := Scalar.divsi arg2 c2_i32_27
  let c1_i32_33 : BitVec 32 := 1#32
  let v116 : BitVec 32 := Scalar.subi v101 c1_i32_33
  let v117 : BitVec 32 := Scalar.select v115 v116 v101
  let v118 : BitVec 32 := Scalar.subi v117 c0_i32_34
  let c1_i32_35 : BitVec 32 := 1#32
  let v120 : BitVec 32 := Scalar.divsi v118 c1_i32_35
  let v121 : BitVec 32 := Scalar.muli v120 c1_i32_35
  let v122 : BitVec 32 := Scalar.addi c0_i32_34 v121
  let c1_i32_37 : BitVec 32 := 1#32
  let arg11 : BitVec 32 := Scf.iv v122 c1_i32_37 k0_t2
  let c1024_i32 : BitVec 32 := 1024#32
  let v195 : BitVec 32 := Scalar.muli arg11 c1024_i32
  v195
def k0_off4 (i : grid0.Coords) (k0_t2 : Fin (k0_t2_loop i).trips) : Fin 2 → Nat :=
  let c0_58 : Index := 0#32
  let c0_i32_34 : BitVec 32 := 0#32
  let arg2 : BitVec 32 := BitVec.ofNat 32 (i 2).val
  let c0_i32_28 : BitVec 32 := 0#32
  let v102 : BitVec 1 := Scalar.cmpi .sgt arg2 c0_i32_28
  let v103 : BitVec 32 := Scalar.extui v102
  let c0_i32_29 : BitVec 32 := 0#32
  let v104 : BitVec 1 := Scalar.cmpi .slt arg2 c0_i32_29
  let v105 : BitVec 32 := Scalar.extui v104
  let v106 : BitVec 32 := Scalar.subi v103 v105
  let c2_i32_27 : BitVec 32 := 2#32
  let c0_i32_30 : BitVec 32 := 0#32
  let v107 : BitVec 1 := Scalar.cmpi .sgt c2_i32_27 c0_i32_30
  let v108 : BitVec 32 := Scalar.extui v107
  let c0_i32_31 : BitVec 32 := 0#32
  let v109 : BitVec 1 := Scalar.cmpi .slt c2_i32_27 c0_i32_31
  let v110 : BitVec 32 := Scalar.extui v109
  let v111 : BitVec 32 := Scalar.subi v108 v110
  let v112 : BitVec 1 := Scalar.cmpi .ne v106 v111
  let v113 : BitVec 32 := Scalar.remsi arg2 c2_i32_27
  let c0_i32_32 : BitVec 32 := 0#32
  let v114 : BitVec 1 := Scalar.cmpi .ne v113 c0_i32_32
  let v115 : BitVec 1 := Scalar.andi v112 v114
  let v101 : BitVec 32 := Scalar.divsi arg2 c2_i32_27
  let c1_i32_33 : BitVec 32 := 1#32
  let v116 : BitVec 32 := Scalar.subi v101 c1_i32_33
  let v117 : BitVec 32 := Scalar.select v115 v116 v101
  let v118 : BitVec 32 := Scalar.subi v117 c0_i32_34
  let c1_i32_35 : BitVec 32 := 1#32
  let v120 : BitVec 32 := Scalar.divsi v118 c1_i32_35
  let v121 : BitVec 32 := Scalar.muli v120 c1_i32_35
  let v122 : BitVec 32 := Scalar.addi c0_i32_34 v121
  let c1_i32_37 : BitVec 32 := 1#32
  let arg11 : BitVec 32 := Scf.iv v122 c1_i32_37 k0_t2
  let c1024_i32 : BitVec 32 := 1024#32
  let v195 : BitVec 32 := Scalar.muli arg11 c1024_i32
  let v196 : BitVec 32 := v195
  let v197 : Index := Scalar.indexCast v196
  ![0, v197.toNat]
def k0_off5 (i : grid0.Coords) (k0_t2 : Fin (k0_t2_loop i).trips) : Fin 2 → Nat :=
  let c0_59 : Index := 0#32
  let c0_i32_34 : BitVec 32 := 0#32
  let arg2 : BitVec 32 := BitVec.ofNat 32 (i 2).val
  let c0_i32_28 : BitVec 32 := 0#32
  let v102 : BitVec 1 := Scalar.cmpi .sgt arg2 c0_i32_28
  let v103 : BitVec 32 := Scalar.extui v102
  let c0_i32_29 : BitVec 32 := 0#32
  let v104 : BitVec 1 := Scalar.cmpi .slt arg2 c0_i32_29
  let v105 : BitVec 32 := Scalar.extui v104
  let v106 : BitVec 32 := Scalar.subi v103 v105
  let c2_i32_27 : BitVec 32 := 2#32
  let c0_i32_30 : BitVec 32 := 0#32
  let v107 : BitVec 1 := Scalar.cmpi .sgt c2_i32_27 c0_i32_30
  let v108 : BitVec 32 := Scalar.extui v107
  let c0_i32_31 : BitVec 32 := 0#32
  let v109 : BitVec 1 := Scalar.cmpi .slt c2_i32_27 c0_i32_31
  let v110 : BitVec 32 := Scalar.extui v109
  let v111 : BitVec 32 := Scalar.subi v108 v110
  let v112 : BitVec 1 := Scalar.cmpi .ne v106 v111
  let v113 : BitVec 32 := Scalar.remsi arg2 c2_i32_27
  let c0_i32_32 : BitVec 32 := 0#32
  let v114 : BitVec 1 := Scalar.cmpi .ne v113 c0_i32_32
  let v115 : BitVec 1 := Scalar.andi v112 v114
  let v101 : BitVec 32 := Scalar.divsi arg2 c2_i32_27
  let c1_i32_33 : BitVec 32 := 1#32
  let v116 : BitVec 32 := Scalar.subi v101 c1_i32_33
  let v117 : BitVec 32 := Scalar.select v115 v116 v101
  let v118 : BitVec 32 := Scalar.subi v117 c0_i32_34
  let c1_i32_35 : BitVec 32 := 1#32
  let v120 : BitVec 32 := Scalar.divsi v118 c1_i32_35
  let v121 : BitVec 32 := Scalar.muli v120 c1_i32_35
  let v122 : BitVec 32 := Scalar.addi c0_i32_34 v121
  let c1_i32_37 : BitVec 32 := 1#32
  let arg11 : BitVec 32 := Scf.iv v122 c1_i32_37 k0_t2
  let c1024_i32 : BitVec 32 := 1024#32
  let v195 : BitVec 32 := Scalar.muli arg11 c1024_i32
  let v196 : BitVec 32 := v195
  let v199 : Index := Scalar.indexCast v196
  ![0, v199.toNat]
def k0_cond2 (i : grid0.Coords) : BitVec 1 :=
  let arg2 : BitVec 32 := BitVec.ofNat 32 (i 2).val
  let c2_i32_38 : BitVec 32 := 2#32
  let c0_i32_39 : BitVec 32 := 0#32
  let v125 : BitVec 1 := Scalar.cmpi .eq c2_i32_38 c0_i32_39
  let c1_i32_40 : BitVec 32 := 1#32
  let v126 : BitVec 32 := Scalar.select v125 c1_i32_40 c2_i32_38
  let v127 : BitVec 32 := Scalar.remsi arg2 v126
  let c0_i32_42 : BitVec 32 := 0#32
  let v129 : BitVec 1 := Scalar.cmpi .slt v127 c0_i32_42
  let c0_i32_43 : BitVec 32 := 0#32
  let v130 : BitVec 1 := Scalar.cmpi .slt v126 c0_i32_43
  let v131 : BitVec 1 := Scalar.xori v129 v130
  let c0_i32_41 : BitVec 32 := 0#32
  let v128 : BitVec 1 := Scalar.cmpi .ne v127 c0_i32_41
  let v132 : BitVec 1 := Scalar.andi v131 v128
  let v133 : BitVec 32 := Scalar.addi v127 v126
  let v134 : BitVec 32 := Scalar.select v132 v133 v127
  let c1_i32_44 : BitVec 32 := 1#32
  let v135 : BitVec 1 := Scalar.cmpi .eq v134 c1_i32_44
  let v136 : BitVec 32 := Scalar.extui v135
  let c0_i32_45 : BitVec 32 := 0#32
  let v137 : BitVec 1 := Scalar.cmpi .ne v136 c0_i32_45
  v137

def k0_mult3 (i : grid0.Coords) : BitVec 32 :=
  let arg2 : BitVec 32 := BitVec.ofNat 32 (i 2).val
  let c1_i32_58 : BitVec 32 := 1#32
  let v195 : BitVec 32 := Scalar.subi arg2 c1_i32_58
  let c512_i32_59 : BitVec 32 := 512#32
  let v196 : BitVec 32 := Scalar.muli v195 c512_i32_59
  v196
def k0_off6 (i : grid0.Coords) : Fin 2 → Nat :=
  let c0_60 : Index := 0#32
  let arg2 : BitVec 32 := BitVec.ofNat 32 (i 2).val
  let c1_i32_58 : BitVec 32 := 1#32
  let v195 : BitVec 32 := Scalar.subi arg2 c1_i32_58
  let c512_i32_59 : BitVec 32 := 512#32
  let v196 : BitVec 32 := Scalar.muli v195 c512_i32_59
  let v197 : BitVec 32 := v196
  let v198 : Index := Scalar.indexCast v197
  ![0, v198.toNat]
def k0_off7 (i : grid0.Coords) : Fin 2 → Nat :=
  let c0_61 : Index := 0#32
  let arg2 : BitVec 32 := BitVec.ofNat 32 (i 2).val
  let c1_i32_58 : BitVec 32 := 1#32
  let v195 : BitVec 32 := Scalar.subi arg2 c1_i32_58
  let c512_i32_59 : BitVec 32 := 512#32
  let v196 : BitVec 32 := Scalar.muli v195 c512_i32_59
  let v197 : BitVec 32 := v196
  let v200 : Index := Scalar.indexCast v197
  ![0, v200.toNat]
def k0_mult4 (i : grid0.Coords) : BitVec 32 :=
  let arg2 : BitVec 32 := BitVec.ofNat 32 (i 2).val
  let c512_i32 : BitVec 32 := 512#32
  let v139 : BitVec 32 := Scalar.muli arg2 c512_i32
  v139
def k0_off8 (i : grid0.Coords) : Fin 2 → Nat :=
  let c0_46 : Index := 0#32
  let arg2 : BitVec 32 := BitVec.ofNat 32 (i 2).val
  let c512_i32 : BitVec 32 := 512#32
  let v139 : BitVec 32 := Scalar.muli arg2 c512_i32
  let v140 : BitVec 32 := v139
  let v141 : Index := Scalar.indexCast v140
  ![0, v141.toNat]
def k0_off9 (i : grid0.Coords) : Fin 2 → Nat :=
  let c0_47 : Index := 0#32
  let arg2 : BitVec 32 := BitVec.ofNat 32 (i 2).val
  let c512_i32 : BitVec 32 := 512#32
  let v139 : BitVec 32 := Scalar.muli arg2 c512_i32
  let v140 : BitVec 32 := v139
  let v143 : Index := Scalar.indexCast v140
  ![0, v143.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![c5_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8192x8x64 : Shape := ⟨4, ![4, 8192, 8, 64]⟩
abbrev S4x8192x8 : Shape := ⟨3, ![4, 8192, 8]⟩
abbrev S_ : Shape := ⟨0, ![]⟩
abbrev S4x8x8192 : Shape := ⟨3, ![4, 8, 8192]⟩
abbrev S4x8x8192x8192 : Shape := ⟨4, ![4, 8, 8192, 8192]⟩
abbrev S4x8x8192x1 : Shape := ⟨4, ![4, 8, 8192, 1]⟩
abbrev S4x8x1x8192 : Shape := ⟨4, ![4, 8, 1, 8192]⟩
abbrev S8192x8192 : Shape := ⟨2, ![8192, 8192]⟩
abbrev S4x8x64x8192 : Shape := ⟨4, ![4, 8, 64, 8192]⟩
abbrev S32768x512 : Shape := ⟨2, ![32768, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x64, .f32⟩
  | .hbm, ⟨2, _⟩ => ⟨S4x8192x8x64, .f32⟩
  | .hbm, ⟨3, _⟩ => ⟨S4x8192x8, .f32⟩
  | .hbm, ⟨4, _⟩ => ⟨S_, .f32⟩
  | .hbm, ⟨5, _⟩ => ⟨S_, .f32⟩
  | .hbm, ⟨6, _⟩ => ⟨S4x8192x8, .f32⟩
  | .hbm, ⟨7, _⟩ => ⟨S4x8x8192, .f32⟩
  | .hbm, ⟨8, _⟩ => ⟨S4x8x8192x8192, .f32⟩
  | .hbm, ⟨9, _⟩ => ⟨S_, .f32⟩
  | .hbm, ⟨10, _⟩ => ⟨S4x8x8192x8192, .f32⟩
  | .hbm, ⟨11, _⟩ => ⟨S4x8x8192x8192, .f32⟩
  | .hbm, ⟨12, _⟩ => ⟨S4x8x8192x1, .f32⟩
  | .hbm, ⟨13, _⟩ => ⟨S4x8x1x8192, .f32⟩
  | .hbm, ⟨14, _⟩ => ⟨S4x8x8192x8192, .f32⟩
  | .hbm, ⟨15, _⟩ => ⟨S4x8x8192x8192, .f32⟩
  | .hbm, ⟨16, _⟩ => ⟨S4x8x8192x8192, .f32⟩
  | .hbm, ⟨17, _⟩ => ⟨S4x8x8192x8192, .f32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S4x8x8192x8192, .i1⟩
  | .hbm, ⟨24, _⟩ => ⟨S4x8x8192x8192, .f32⟩
  | .hbm, ⟨25, _⟩ => ⟨S4x8x8192x8192, .f32⟩
  | .hbm, ⟨26, _⟩ => ⟨S_, .f32⟩
  | .hbm, ⟨27, _⟩ => ⟨S4x8x8192, .f32⟩
  | .hbm, ⟨28, _⟩ => ⟨S_, .f32⟩
  | .hbm, ⟨29, _⟩ => ⟨S4x8x8192, .f32⟩
  | .hbm, ⟨30, _⟩ => ⟨S4x8x8192, .f32⟩
  | .hbm, ⟨31, _⟩ => ⟨S4x8x8192x1, .f32⟩
  | .hbm, ⟨32, _⟩ => ⟨S4x8x8192x8192, .f32⟩
  | .hbm, ⟨33, _⟩ => ⟨S4x8x8192x8192, .f32⟩
  | .hbm, ⟨34, _⟩ => ⟨S4x8x8192x8192, .f32⟩
  | .hbm, ⟨35, _⟩ => ⟨S_, .f32⟩
  | .hbm, ⟨36, _⟩ => ⟨S4x8x8192, .f32⟩
  | .hbm, ⟨37, _⟩ => ⟨S4x8x8192x1, .f32⟩
  | .hbm, ⟨38, _⟩ => ⟨S4x8x8192x8192, .f32⟩
  | .hbm, ⟨39, _⟩ => ⟨S4x8x8192x8192, .f32⟩
  | .hbm, ⟨40, _⟩ => ⟨S4x8x64x8192, .f32⟩
  | .hbm, ⟨41, _⟩ => ⟨S4x8192x8x64, .f32⟩
  | .hbm, ⟨42, _⟩ => ⟨S32768x512, .f32⟩
  | .hbm, ⟨43, _⟩ => ⟨S32768x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Mlp.lean ====
abbrev S4x8192x1024 : Shape := ⟨3, ![4, 8192, 1024]⟩
abbrev S4x6144 : Shape := ⟨2, ![4, 6144]⟩
abbrev S1024 : Shape := ⟨1, ![1024]⟩
abbrev S1024x4096 : Shape := ⟨2, ![1024, 4096]⟩
abbrev S4096x1024 : Shape := ⟨2, ![4096, 1024]⟩
abbrev S4x1x6144 : Shape := ⟨3, ![4, 1, 6144]⟩
abbrev S1x1024 : Shape := ⟨2, ![1, 1024]⟩
abbrev S1x256x1024 : Shape := ⟨3, ![1, 256, 1024]⟩
abbrev S1x1x1024 : Shape := ⟨3, ![1, 1, 1024]⟩
abbrev S1x256 : Shape := ⟨2, ![1, 256]⟩
abbrev S1x256x1 : Shape := ⟨3, ![1, 256, 1]⟩
abbrev S256x1024 : Shape := ⟨2, ![256, 1024]⟩
abbrev S256x4096 : Shape := ⟨2, ![256, 4096]⟩

abbrev nBuf : Space → Nat
  | .hbm => 12
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S4x1x6144, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x256x1024, .f32⟩
  | .local _ .vmem, ⟨13, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlpReferenceIdeal.lean ====
abbrev S4x8192x1024 : Shape := ⟨3, ![4, 8192, 1024]⟩
abbrev S4x6144 : Shape := ⟨2, ![4, 6144]⟩
abbrev S1024 : Shape := ⟨1, ![1024]⟩
abbrev S1024x4096 : Shape := ⟨2, ![1024, 4096]⟩
abbrev S4096x1024 : Shape := ⟨2, ![4096, 1024]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x4096, .f32⟩
  | .hbm, ⟨37, _⟩ => ⟨S_, .f32⟩
  | .hbm, ⟨38, _⟩ => ⟨S4x8192x4096, .f32⟩
  | .hbm, ⟨39, _⟩ => ⟨S4x8192x4096, .f32⟩
  | .hbm, ⟨40, _⟩ => ⟨S4x8192x4096, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x1, .f32⟩
  | .hbm, ⟨53, _⟩ => ⟨S4x8192x1024, .f32⟩
  | .hbm, ⟨54, _⟩ => ⟨S4x8192x1024, .f32⟩
  | .hbm, ⟨55, _⟩ => ⟨S1x1x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Merge.lean ====
abbrev S4x8192x1024 : Shape := ⟨3, ![4, 8192, 1024]⟩
abbrev S4x6144 : Shape := ⟨2, ![4, 6144]⟩
abbrev S1024 : Shape := ⟨1, ![1024]⟩
abbrev S4x8192x512 : Shape := ⟨3, ![4, 8192, 512]⟩
abbrev S1024x7704 : Shape := ⟨2, ![1024, 7704]⟩
abbrev S512x1024 : Shape := ⟨2, ![512, 1024]⟩
abbrev S1024x1024 : Shape := ⟨2, ![1024, 1024]⟩
abbrev S1024x256 : Shape := ⟨2, ![1024, 256]⟩
abbrev S1024x512 : Shape := ⟨2, ![1024, 512]⟩
abbrev S1024x4 : Shape := ⟨2, ![1024, 4]⟩
abbrev S1024x8 : Shape := ⟨2, ![1024, 8]⟩
abbrev S1024x3072 : Shape := ⟨2, ![1024, 3072]⟩
abbrev S_ : Shape := ⟨0, ![]⟩
abbrev S1024x80 : Shape := ⟨2, ![1024, 80]⟩
abbrev S1024x128 : Shape := ⟨2, ![1024, 128]⟩
abbrev S1024x3712 : Shape := ⟨2, ![1024, 3712]⟩
abbrev S4x1x6144 : Shape := ⟨3, ![4, 1, 6144]⟩
abbrev S32768x512 : Shape := ⟨2, ![32768, 512]⟩
abbrev S1x1024 : Shape := ⟨2, ![1, 1024]⟩
abbrev S1x256x1024 : Shape := ⟨3, ![1, 256, 1024]⟩
abbrev S1x1x1024 : Shape := ⟨3, ![1, 1, 1024]⟩
abbrev S256x512 : Shape := ⟨2, ![256, 512]⟩
abbrev S1x256 : Shape := ⟨2, ![1, 256]⟩
abbrev S1x256x1 : Shape := ⟨3, ![1, 256, 1]⟩
abbrev S256x1024 : Shape := ⟨2, ![256, 1024]⟩

abbrev nBuf : Space → Nat
  | .hbm => 50
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024, .f32⟩
  | .hbm, ⟨4, _⟩ => ⟨S4x8192x512, .f32⟩
  | .hbm, ⟨5, _⟩ => ⟨S4x8192x512, .f32⟩
  | .hbm, ⟨6, _⟩ => ⟨S4x8192x512, .f32⟩
  | .hbm, ⟨7, _⟩ => ⟨S1024x7704, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x256, .f32⟩
  | .hbm, ⟨13, _⟩ => ⟨S1024x256, .f32⟩
  | .hbm, ⟨14, _⟩ => ⟨S1024x512, .f32⟩
  | .hbm, ⟨15, _⟩ => ⟨S1024x4, .f32⟩
  | .hbm, ⟨16, _⟩ => ⟨S1024x4, .f32⟩
  | .hbm, ⟨17, _⟩ => ⟨S1024x512, .f32⟩
  | .hbm, ⟨18, _⟩ => ⟨S1024x512, .f32⟩
  | .hbm, ⟨19, _⟩ => ⟨S1024x1024, .f32⟩
  | .hbm, ⟨20, _⟩ => ⟨S1024x8, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x8, .f32⟩
  | .hbm, ⟨25, _⟩ => ⟨S1024x3072, .f32⟩
  | .hbm, ⟨26, _⟩ => ⟨S_, .f32⟩
  | .hbm, ⟨27, _⟩ => ⟨S1024x4, .f32⟩
  | .hbm, ⟨28, _⟩ => ⟨S_, .f32⟩
  | .hbm, ⟨29, _⟩ => ⟨S1024x80, .f32⟩
  | .hbm, ⟨30, _⟩ => ⟨S1024x128, .f32⟩
  | .hbm, ⟨31, _⟩ => ⟨S1024x3712, .f32⟩
  | .hbm, ⟨32, _⟩ => ⟨S1024x1024, .f32⟩
  | .hbm, ⟨33, _⟩ => ⟨S1024x3712, .bf16⟩
  | .hbm, ⟨34, _⟩ => ⟨S1024x1024, .bf16⟩
  | .hbm, ⟨35, _⟩ => ⟨S1024x3072, .bf16⟩
  | .hbm, ⟨36, _⟩ => ⟨S4x1x6144, .f32⟩
  | .hbm, ⟨37, _⟩ => ⟨S32768x512, .f32⟩
  | .hbm, ⟨38, _⟩ => ⟨S32768x512, .bf16⟩
  | .hbm, ⟨39, _⟩ => ⟨S32768x512, .f32⟩
  | .hbm, ⟨40, _⟩ => ⟨S32768x512, .bf16⟩
  | .hbm, ⟨41, _⟩ => ⟨S32768x512, .f32⟩
  | .hbm, ⟨42, _⟩ => ⟨S32768x512, .bf16⟩
  | .hbm, ⟨43, _⟩ => ⟨S512x1024, .bf16⟩
  | .hbm, ⟨44, _⟩ => ⟨S512x1024, .bf16⟩
  | .hbm, ⟨45, _⟩ => ⟨S512x1024, .bf16⟩
  | .hbm, ⟨46, _⟩ => ⟨S1024x1024, .bf16⟩
  | .hbm, ⟨47, _⟩ => ⟨S1x1024, .f32⟩
  | .hbm, ⟨48, _⟩ => ⟨S1x1024, .f32⟩
  | .hbm, ⟨49, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S1024x3072, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x256x1024, .f32⟩
  | .local _ .vmem, ⟨22, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeReferenceIdeal.lean ====
abbrev S4x8192x1024 : Shape := ⟨3, ![4, 8192, 1024]⟩
abbrev S4x6144 : Shape := ⟨2, ![4, 6144]⟩
abbrev S1024 : Shape := ⟨1, ![1024]⟩
abbrev S4x8192x512 : Shape := ⟨3, ![4, 8192, 512]⟩
abbrev S1024x7704 : Shape := ⟨2, ![1024, 7704]⟩
abbrev S512x1024 : Shape := ⟨2, ![512, 1024]⟩
abbrev S1024x1024 : Shape := ⟨2, ![1024, 1024]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x7704 : Shape := ⟨3, ![4, 8192, 7704]⟩
abbrev S4x8192x3072 : Shape := ⟨3, ![4, 8192, 3072]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024, .f32⟩
  | .hbm, ⟨4, _⟩ => ⟨S4x8192x512, .f32⟩
  | .hbm, ⟨5, _⟩ => ⟨S4x8192x512, .f32⟩
  | .hbm, ⟨6, _⟩ => ⟨S4x8192x512, .f32⟩
  | .hbm, ⟨7, _⟩ => ⟨S1024x7704, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S4x1x6144, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x7704, .f32⟩
  | .hbm, ⟨43, _⟩ => ⟨S4x8192x3072, .f32⟩
  | .hbm, ⟨44, _⟩ => ⟨S4x8192x3072, .f32⟩
  | .hbm, ⟨45, _⟩ => ⟨S4x8192x3072, .f32⟩
  | .hbm, ⟨46, _⟩ => ⟨S_, .f32⟩
  | .hbm, ⟨47, _⟩ => ⟨S4x8192x3072, .f32⟩
  | .hbm, ⟨48, _⟩ => ⟨S4x8192x3072, .f32⟩
  | .hbm, ⟨49, _⟩ => ⟨S_, .f32⟩
  | .hbm, ⟨50, _⟩ => ⟨S4x8192x3072, .f32⟩
  | .hbm, ⟨51, _⟩ => ⟨S4x8192x3072, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x8192, .f32⟩
  | .hbm, ⟨67, _⟩ => ⟨S4x8192x1, .f32⟩
  | .hbm, ⟨68, _⟩ => ⟨S_, .f32⟩
  | .hbm, ⟨69, _⟩ => ⟨S4x8192x1, .f32⟩
  | .hbm, ⟨70, _⟩ => ⟨S4x8192x1, .f32⟩
  | .hbm, ⟨71, _⟩ => ⟨S_, .f32⟩
  | .hbm, ⟨72, _⟩ => ⟨S4x8192x1, .f32⟩
  | .hbm, ⟨73, _⟩ => ⟨S4x8192x1, .f32⟩
  | .hbm, ⟨74, _⟩ => ⟨S4x8192x1, .f32⟩
  | .hbm, ⟨75, _⟩ => ⟨S4x8192x1024, .f32⟩
  | .hbm, ⟨76, _⟩ => ⟨S4x8192x1024, .f32⟩
  | .hbm, ⟨77, _⟩ => ⟨S1x1x1024, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Inproj.lean ====
abbrev S4x8192x1024 : Shape := ⟨3, ![4, 8192, 1024]⟩
abbrev S4x6144 : Shape := ⟨2, ![4, 6144]⟩
abbrev S1024 : Shape := ⟨1, ![1024]⟩
abbrev S1024x7704 : Shape := ⟨2, ![1024, 7704]⟩
abbrev S1024x256 : Shape := ⟨2, ![1024, 256]⟩
abbrev S1024x512 : Shape := ⟨2, ![1024, 512]⟩
abbrev S1024x4 : Shape := ⟨2, ![1024, 4]⟩
abbrev S1024x1024 : Shape := ⟨2, ![1024, 1024]⟩
abbrev S1024x8 : Shape := ⟨2, ![1024, 8]⟩
abbrev S1024x3072 : Shape := ⟨2, ![1024, 3072]⟩
abbrev S_ : Shape := ⟨0, ![]⟩
abbrev S1024x80 : Shape := ⟨2, ![1024, 80]⟩
abbrev S1024x128 : Shape := ⟨2, ![1024, 128]⟩
abbrev S1024x3712 : Shape := ⟨2, ![1024, 3712]⟩
abbrev S4x1x6144 : Shape := ⟨3, ![4, 1, 6144]⟩
abbrev S1x1024 : Shape := ⟨2, ![1, 1024]⟩
abbrev S32768x256 : Shape := ⟨2, ![32768, 256]⟩
abbrev S32768x512 : Shape := ⟨2, ![32768, 512]⟩
abbrev S32768x1024 : Shape := ⟨2, ![32768, 1024]⟩
abbrev S32768x128 : Shape := ⟨2, ![32768, 128]⟩
abbrev S128x32768 : Shape := ⟨2, ![128, 32768]⟩
abbrev S4x512x8192 : Shape := ⟨3, ![4, 512, 8192]⟩
abbrev S1x256x1024 : Shape := ⟨3, ![1, 256, 1024]⟩
abbrev S1x1x1024 : Shape := ⟨3, ![1, 1, 1024]⟩
abbrev S256x256 : Shape := ⟨2, ![256, 256]⟩
abbrev S256x512 : Shape := ⟨2, ![256, 512]⟩
abbrev S256x1024 : Shape := ⟨2, ![256, 1024]⟩
abbrev S256x128 : Shape := ⟨2, ![256, 128]⟩
abbrev S128x256 : Shape := ⟨2, ![128, 256]⟩
abbrev S1x512x256 : Shape := ⟨3, ![1, 512, 256]⟩
abbrev S1x256 : Shape := ⟨2, ![1, 256]⟩
abbrev S1x256x1 : Shape := ⟨3, ![1, 256, 1]⟩
abbrev S512x256 : Shape := ⟨2, ![512, 256]⟩

abbrev nBuf : Space → Nat
  | .hbm => 42
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024x7704, .f32⟩
  | .hbm, ⟨4, _⟩ => ⟨S1024x256, .f32⟩
  | .hbm, ⟨5, _⟩ => ⟨S1024x256, .f32⟩
  | .hbm, ⟨6, _⟩ => ⟨S1024x512, .f32⟩
  | .hbm, ⟨7, _⟩ => ⟨S1024x4, .f32⟩
  | .hbm, ⟨8, _⟩ => ⟨S1024x4, .f32⟩
  | .hbm, ⟨9, _⟩ => ⟨S1024x512, .f32⟩
  | .hbm, ⟨10, _⟩ => ⟨S1024x512, .f32⟩
  | .hbm, ⟨11, _⟩ => ⟨S1024x1024, .f32⟩
  | .hbm, ⟨12, _⟩ => ⟨S1024x8, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x8, .f32⟩
  | .hbm, ⟨17, _⟩ => ⟨S1024x3072, .f32⟩
  | .hbm, ⟨18, _⟩ => ⟨S_, .f32⟩
  | .hbm, ⟨19, _⟩ => ⟨S1024x4, .f32⟩
  | .hbm, ⟨20, _⟩ => ⟨S_, .f32⟩
  | .hbm, ⟨21, _⟩ => ⟨S1024x80, .f32⟩
  | .hbm, ⟨22, _⟩ => ⟨S1024x128, .f32⟩
  | .hbm, ⟨23, _⟩ => ⟨S1024x3712, .f32⟩
  | .hbm, ⟨24, _⟩ => ⟨S1024x1024, .f32⟩
  | .hbm, ⟨25, _⟩ => ⟨S1024x3712, .bf16⟩
  | .hbm, ⟨26, _⟩ => ⟨S1024x1024, .bf16⟩
  | .hbm, ⟨27, _⟩ => ⟨S1024x3072, .bf16⟩
  | .hbm, ⟨28, _⟩ => ⟨S4x1x6144, .f32⟩
  | .hbm, ⟨29, _⟩ => ⟨S1024x1024, .bf16⟩
  | .hbm, ⟨30, _⟩ => ⟨S1x1024, .f32⟩
  | .hbm, ⟨31, _⟩ => ⟨S32768x256, .f32⟩
  | .hbm, ⟨32, _⟩ => ⟨S32768x256, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S32768x1024, .f32⟩
  | .hbm, ⟨37, _⟩ => ⟨S32768x512, .bf16⟩
  | .hbm, ⟨38, _⟩ => ⟨S32768x128, .f32⟩
  | .hbm, ⟨39, _⟩ => ⟨S128x32768, .f32⟩
  | .hbm, ⟨40, _⟩ => ⟨S4x512x8192, .f32⟩
  | .hbm, ⟨41, _⟩ => ⟨S4x512x8192, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3712, .bf16⟩
  | .local _ .vmem, ⟨8, _⟩ => ⟨S1024x1024, .bf16⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x1024, .f32⟩
  | .local _ .vmem, ⟨20, _⟩ => ⟨S256x1024, .f32⟩
  | .local _ .vmem, ⟨21, _⟩ => ⟨S256x512, .bf16⟩
  | .local _ .vmem, ⟨22, _⟩ => ⟨S256x512, .bf16⟩
  | .local _ .vmem, ⟨23, _⟩ => ⟨S256x128, .f32⟩
  | .local _ .vmem, ⟨24, _⟩ => ⟨S256x128, .f32⟩
  | .local _ .vmem, ⟨25, _⟩ => ⟨S128x256, .f32⟩
  | .local _ .vmem, ⟨26, _⟩ => ⟨S128x256, .f32⟩
  | .local _ .vmem, ⟨27, _⟩ => ⟨S1x512x256, .f32⟩
  | .local _ .vmem, ⟨28, _⟩ => ⟨S1x512x256, .f32⟩
  | .local _ .vmem, ⟨29, _⟩ => ⟨S1x512x256, .f32⟩
  | .local _ .vmem, ⟨30, _⟩ => ⟨S1x512x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev main_v25_2 : Ref sig .tc := ⟨.hbm, 33, rfl⟩
abbrev main_v25_3 : Ref sig .tc := ⟨.hbm, 34, rfl⟩
abbrev main_v25_4 : Ref sig .tc := ⟨.hbm, 35, rfl⟩
abbrev main_v25_5 : Ref sig .tc := ⟨.hbm, 36, rfl⟩
abbrev main_v25_6 : Ref sig .tc := ⟨.hbm, 37, rfl⟩
abbrev main_v25_7 : Ref sig .tc := ⟨.hbm, 38, rfl⟩
abbrev main_v25_8 : Ref sig .tc := ⟨.hbm, 39, rfl⟩
abbrev main_v25_9 : Ref sig .tc := ⟨.hbm, 40, rfl⟩
abbrev main_v25_10 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3712 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InprojReferenceIdeal.lean ====
abbrev S4x8192x1024 : Shape := ⟨3, ![4, 8192, 1024]⟩
abbrev S4x6144 : Shape := ⟨2, ![4, 6144]⟩
abbrev S1024 : Shape := ⟨1, ![1024]⟩
abbrev S1024x7704 : Shape := ⟨2, ![1024, 7704]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x7704 : Shape := ⟨3, ![4, 8192, 7704]⟩
abbrev S4x8192x256 : Shape := ⟨3, ![4, 8192, 256]⟩
abbrev S4x8192x512 : Shape := ⟨3, ![4, 8192, 512]⟩
abbrev S4x8192x4 : Shape := ⟨3, ![4, 8192, 4]⟩
abbrev S4x8192x8 : Shape := ⟨3, ![4, 8192, 8]⟩
abbrev S4x8192x3072 : Shape := ⟨3, ![4, 8192, 3072]⟩
abbrev S4x8192x80 : Shape := ⟨3, ![4, 8192, 80]⟩
abbrev S4x8192x128 : Shape := ⟨3, ![4, 8192, 128]⟩
abbrev S32768x128 : Shape := ⟨2, ![32768, 128]⟩
abbrev S32768x256 : Shape := ⟨2, ![32768, 256]⟩
abbrev S32768x512 : Shape := ⟨2, ![32768, 512]⟩
abbrev S32768x1024 : Shape := ⟨2, ![32768, 1024]⟩
abbrev S128x32768 : Shape := ⟨2, ![128, 32768]⟩
abbrev S4x512x8192 : Shape := ⟨3, ![4, 512, 8192]⟩

abbrev nBuf : Space → Nat
  | .hbm => 72
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024x7704, .f32⟩
  | .hbm, ⟨4, _⟩ => ⟨S4x1x6144, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x7704, .f32⟩
  | .hbm, ⟨35, _⟩ => ⟨S4x8192x256, .f32⟩
  | .hbm, ⟨36, _⟩ => ⟨S4x8192x256, .f32⟩
  | .hbm, ⟨37, _⟩ => ⟨S4x8192x512, .f32⟩
  | .hbm, ⟨38, _⟩ => ⟨S4x8192x4, .f32⟩
  | .hbm, ⟨39, _⟩ => ⟨S4x8192x4, .f32⟩
  | .hbm, ⟨40, _⟩ => ⟨S4x8192x512, .f32⟩
  | .hbm, ⟨41, _⟩ => ⟨S4x8192x512, .f32⟩
  | .hbm, ⟨42, _⟩ => ⟨S4x8192x1024, .f32⟩
  | .hbm, ⟨43, _⟩ => ⟨S4x8192x8, .f32⟩
  | .hbm, ⟨44, _⟩ => ⟨S4x8192x512, .f32⟩
  | .hbm, ⟨45, _⟩ => ⟨S4x8192x512, .f32⟩
  | .hbm, ⟨46, _⟩ => ⟨S4x8192x512, .f32⟩
  | .hbm, ⟨47, _⟩ => ⟨S4x8192x8, .f32⟩
  | .hbm, ⟨48, _⟩ => ⟨S4x8192x3072, .f32⟩
  | .hbm, ⟨49, _⟩ => ⟨S_, .f32⟩
  | .hbm, ⟨50, _⟩ => ⟨S4x8192x4, .f32⟩
  | .hbm, ⟨51, _⟩ => ⟨S_, .f32⟩
  | .hbm, ⟨52, _⟩ => ⟨S4x8192x80, .f32⟩
  | .hbm, ⟨53, _⟩ => ⟨S4x8192x128, .f32⟩
  | .hbm, ⟨54, _⟩ => ⟨S32768x128, .f32⟩
  | .hbm, ⟨55, _⟩ => ⟨S_, .f32⟩
  | .hbm, ⟨56, _⟩ => ⟨S4x8192x256, .f32⟩
  | .hbm, ⟨57, _⟩ => ⟨S4x8192x256, .f32⟩
  | .hbm, ⟨58, _⟩ => ⟨S32768x256, .f32⟩
  | .hbm, ⟨59, _⟩ => ⟨S32768x256, .f32⟩
  | .hbm, ⟨60, _⟩ => ⟨S32768x512, .f32⟩
  | .hbm, ⟨61, _⟩ => ⟨S32768x512, .f32⟩
  | .hbm, ⟨62, _⟩ => ⟨S32768x512, .f32⟩
  | .hbm, ⟨63, _⟩ => ⟨S32768x1024, .f32⟩
  | .hbm, ⟨64, _⟩ => ⟨S_, .f32⟩
  | .hbm, ⟨65, _⟩ => ⟨S4x8192x512, .f32⟩
  | .hbm, ⟨66, _⟩ => ⟨S4x8192x512, .f32⟩
  | .hbm, ⟨67, _⟩ => ⟨S32768x512, .f32⟩
  | .hbm, ⟨68, _⟩ => ⟨S32768x512, .bf16⟩
  | .hbm, ⟨69, _⟩ => ⟨S128x32768, .f32⟩
  | .hbm, ⟨70, _⟩ => ⟨S4x512x8192, .f32⟩
  | .hbm, ⟨71, _⟩ => ⟨S4x512x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== Proof.Body.lean ====
/- The attention kernel's body, as functions of the blocks it is called with: the two buffers it keeps between
   points (the keys with their gate rows; the values with their row of ones), the carried value before each block
   of keys, and the block it stores. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-! ## The two buffers kept between points -/

abbrev rK0 : Rect S256x8192 := Rect.unit (s := S256x8192) ![0, 0] S128x8192.size inb_S256x8192_S128x8192_0_0
abbrev rK1 : Rect S256x8192 := Rect.unit (s := S256x8192) ![128, 0] S16x8192.size inb_S256x8192_S16x8192_128_0
abbrev rK2 : Rect S256x8192 := Rect.unit (s := S256x8192) ![144, 0] S112x8192.size inb_S256x8192_S112x8192_144_0
abbrev rV0 : Rect S144x8192 := Rect.unit (s := S144x8192) ![0, 0] S128x8192.size inb_S144x8192_S128x8192_0_0
abbrev rV1 : Rect S144x8192 := Rect.unit (s := S144x8192) ![128, 0] S16x8192.size inb_S144x8192_S16x8192_128_0
abbrev rIn : Rect S1x128x8192 := Rect.unit (s := S1x128x8192) ![0, 0, 0] S1x128x8192.size inb_S1x128x8192_S1x128x8192_0_0_0
abbrev rTile : Rect S512x128 := Rect.unit (s := S512x128) ![0, 0] S512x128.size inb_S512x128_S512x128_0_0

/-- The row number of each of the sixteen rows below the keys. -/
abbrev rowIx : IVec S16x8192 32 := iota .tc S16x8192 32 [0] iota_S16x8192_d0_w32

/-- The gate rows of the two heads of point `i`. -/
def keyRow0 (i : grid0.Coords) (h : k0_cond1 i = 1#1) (x4 : Vec F S8x8192 .f32) : Vec F S1x8192 .f32 :=
  View.ld x4 (Rect.unit (s := S8x8192) (k0_off1 i 0#32) S1x8192.size (k0_off1_inb i h 0))
def keyRow1 (i : grid0.Coords) (h : k0_cond1 i = 1#1) (x4 : Vec F S8x8192 .f32) : Vec F S1x8192 .f32 :=
  View.ld x4 (Rect.unit (s := S8x8192) (k0_off1 i 1#32) S1x8192.size (k0_off1_inb i h 1))

/-- The sixteen rows below the keys. -/
def extRows (r0 r1 : Vec F S1x8192 .f32) : FVec F S16x8192 .bf16 :=
  k0_pay11 rowIx (k0_pay7 r0) (k0_pay8 r0) (k0_pay9 r0) k0_pay10 (Scalar.ofBits .f32 0x00000000#32) r1

/-- The keys with their gate rows, as the body leaves them. -/
def kaug (x1 : Vec F S1x128x8192 .f32) (r0 r1 : Vec F S1x8192 .f32) : Vec F S256x8192 .bf16 :=
  View.canon [⟨rK2, k0_pay13 (F := F)⟩, ⟨rK1, k0_pay12 (extRows r0 r1)⟩, ⟨rK0, k0_pay2 (View.ld x1 rIn)⟩]

/-- The values with their row of ones, as the body leaves them. -/
def vaug (x2 : Vec F S1x128x8192 .f32) : Vec F S144x8192 .bf16 :=
  View.canon [⟨rV1, k0_pay14 (F := F) rowIx⟩, ⟨rV0, k0_pay3 (View.ld x2 rIn)⟩]

theorem cover_k (p0 p1 p2) (y : S256x8192.Idx) :
    ∃ pc ∈ ([⟨rK2, p2⟩, ⟨rK1, p1⟩, ⟨rK0, p0⟩] : List (View.Piece (Elt F) S256x8192 .bf16)), y ∈ pc.1.set :=
  View.cover_of_tiledBy [⟨rK2, p2⟩, ⟨rK1, p1⟩, ⟨rK0, p0⟩] ![16, 8192] (by sl_kernel_rfl) y
theorem cover_v (p0 p1) (y : S144x8192.Idx) :
    ∃ pc ∈ ([⟨rV1, p1⟩, ⟨rV0, p0⟩] : List (View.Piece (Elt F) S144x8192 .bf16)), y ∈ pc.1.set :=
  View.cover_of_tiledBy [⟨rV1, p1⟩, ⟨rV0, p0⟩] ![16, 8192] (by sl_kernel_rfl) y
theorem cover_o (p0) (y : S512x128.Idx) :
    ∃ pc ∈ ([⟨rTile, p0⟩] : List (View.Piece (Elt F) S512x128 .bf16)), y ∈ pc.1.set :=
  View.cover_of_tiled [⟨rTile, p0⟩] S512x128.size (by rfl) y

/-! ## The block of queries, and the carried value -/

abbrev laneIx : IVec S512x128 32 := iota .tc S512x128 32 [1] iota_S512x128_d1_w32

/-- What the body carries over the blocks of keys: per head the greatest score and the sum of weights, and the
    weighted values of both heads. -/
abbrev Carry (F : FTy → Type) := FVec F S512x1 .f32 × FVec F S512x1 .f32 × FVec F S512x1 .f32 × FVec F S512x1 .f32 × FVec F S512x128 .f32

/-- Head 0's queries with their gate columns. -/
def q0 (i : grid0.Coords) (x0 : Vec F S512x128 .bf16) (x3 : Vec F S512x128 .f32) : FVec F S512x256 .bf16 :=
  k0_pay23 (k0_pay16 x0) laneIx k0_pay17 k0_pay20 (k0_pay21 i x3) (k0_pay22 i x3)
/-- Head 1's gate columns, before they are laid beside its queries. -/
def g1 (i : grid0.Coords) (x3 : Vec F S512x128 .f32) : FVec F S512x128 .f32 :=
  k0_pay24 (BitVec.ofNat 32 (i 1).val) (k0_pay15 x3) laneIx
/-- Head 1's queries with their gate columns. -/
def q1 (i : grid0.Coords) (x0 : Vec F S512x128 .bf16) (x3 : Vec F S512x128 .f32) : FVec F S512x256 .bf16 :=
  k0_pay26 (k0_pay16 x0) laneIx k0_pay17 (g1 i x3) (k0_pay25 laneIx) 9#32

def start : Carry F := (k0_pay28, k0_pay28, k0_pay29, k0_pay29, k0_pay30)

/-- One block of 1024 keys. -/
def wide (i : grid0.Coords) (x0 : Vec F S512x128 .bf16) (x3 : Vec F S512x128 .f32) (kb : Vec F S256x1024 .bf16)
    (vb : Vec F S144x1024 .bf16) (a : Carry F) : Carry F :=
  (k0_pay32 (q0 i x0 x3) a.1 kb,
   k0_pay37 (k0_pay16 x0) laneIx k0_pay17 (g1 i x3) (k0_pay25 laneIx) 9#32 a.2.1 kb,
   k0_pay35 (q0 i x0 x3) a.1 a.2.2.1 kb vb,
   k0_pay40 (k0_pay16 x0) laneIx k0_pay17 (g1 i x3) (k0_pay25 laneIx) 9#32 a.2.1 a.2.2.2.1 kb vb,
   k0_pay41 (k0_pay16 x0) laneIx k0_pay17 (q0 i x0 x3) (g1 i x3) (k0_pay25 laneIx) 9#32 a.1 a.2.1 a.2.2.2.2 kb vb)

/-- The carried value before the wide block `k`. -/
def before (i : grid0.Coords) (x0 : Vec F S512x128 .bf16) (x3 : Vec F S512x128 .f32) (K : Vec F S256x8192 .bf16)
    (W : Vec F S144x8192 .bf16) : ℕ → Carry F
  | 0 => start
  | k + 1 => if h : k < (k0_t1_loop i).trips then
      wide i x0 x3 (View.ld K (Rect.unit (s := S256x8192) (k0_off2 i ⟨k, h⟩) S256x1024.size (k0_off2_inb i ⟨k, h⟩)))
        (View.ld W (Rect.unit (s := S144x8192) (k0_off3 i ⟨k, h⟩) S144x1024.size (k0_off3_inb i ⟨k, h⟩))) (before i x0 x3 K W k)
    else before i x0 x3 K W k

/-- One block of 512 keys, all of them at or before every query of the block. -/
def narrow (i : grid0.Coords) (x0 : Vec F S512x128 .bf16) (x3 : Vec F S512x128 .f32) (kb : Vec F S256x512 .bf16)
    (vb : Vec F S144x512 .bf16) (a : Carry F) : Carry F :=
  (k0_pay54 (q0 i x0 x3) a.1 kb, k0_pay59 (q1 i x0 x3) a.2.1 kb, k0_pay57 (q0 i x0 x3) a.1 a.2.2.1 kb vb,
   k0_pay62 (q1 i x0 x3) a.2.1 a.2.2.2.1 kb vb, k0_pay63 k0_pay17 (q0 i x0 x3) (q1 i x0 x3) a.1 a.2.1 a.2.2.2.2 kb vb)

/-- The carried value before the last block. -/
def atLast (i : grid0.Coords) (x0 : Vec F S512x128 .bf16) (x3 : Vec F S512x128 .f32) (K : Vec F S256x8192 .bf16)
    (W : Vec F S144x8192 .bf16) : Carry F :=
  if h : k0_cond2 i = 1#1 then
    narrow i x0 x3 (View.ld K (Rect.unit (s := S256x8192) (k0_off6 i) S256x512.size (k0_off6_inb i h)))
      (View.ld W (Rect.unit (s := S144x8192) (k0_off7 i) S144x512.size (k0_off7_inb i h)))
      (before i x0 x3 K W (k0_t1_loop i).trips)
  else before i x0 x3 K W (k0_t1_loop i).trips

/-- The last block (its keys masked to those at or before each query), and the quotient. -/
def lastOut (i : grid0.Coords) (x0 : Vec F S512x128 .bf16) (x3 : Vec F S512x128 .f32) (kb : Vec F S256x512 .bf16)
    (vb : Vec F S144x512 .bf16) (a : Carry F) : FVec F S512x128 .bf16 :=
  k0_pay1 k0_pay17 a.2.1 a.2.2.2.1 a.2.2.2.2 vb (k0_pay66 (q0 i x0 x3) k0_pay27 a.1 kb)
    (k0_pay68 (q0 i x0 x3) k0_pay27 a.1 a.2.2.1 kb vb) (k0_pay69 (q0 i x0 x3) k0_pay27 a.1 kb vb)
    (k0_pay71 (q1 i x0 x3) k0_pay27 a.2.1 kb) (k0_pay72 (q1 i x0 x3) k0_pay27 a.2.1 kb)

/-- The block the body stores. -/
def stored (i : grid0.Coords) (x0 : Vec F S512x128 .bf16) (x3 : Vec F S512x128 .f32) (K : Vec F S256x8192 .bf16)
    (W : Vec F S144x8192 .bf16) : Vec F S512x128 .bf16 :=
  lastOut i x0 x3 (View.ld K (Rect.unit (s := S256x8192) (k0_off8 i) S256x512.size (k0_off8_inb i)))
    (View.ld W (Rect.unit (s := S144x8192) (k0_off9 i) S144x512.size (k0_off9_inb i))) (atLast i x0 x3 K W)

end Cert.KernelIdeal.Attn

end
-- ==== Proof.Run.lean ====
/- The attention kernel's body, run: on whole staging memrefs it leaves the input blocks as they were, the two kept
   buffers at `kaug` and `vaug` and the output block at `stored` (Proof/Body.lean). -/
module

public import proofs.«01_k».proof.Proof.Body
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] {e : EltTy}

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

theorem tile_whole {M : Memref sig .tc .vmem S512x128 e} (h : M.IsWhole) (x : Vec F S512x128 e) :
    View.readAt (Elt F) M.view rTile.toLoadRect (h.unread x) = x := by
  rw [View.readAt_eq_ld, h.read_unread, View.ld_unit_zero hz2]

/-- What the first part hands to the rest of the body. -/
abbrev Head (F : FTy → Type) [FloatOps F] := Σ' (arg1 : BitVec 32) (arg2 : BitVec 32) (v4 : FVec F S512x128 .f32) (v6 : FVec F S512x128 .bf16) (v7 : IVec S512x128 32) (v9 : IVec S512x128 1) (v26 : IVec S512x128 1) (v37 : FVec F S512x128 .f32), FVec F S512x128 .f32

def head (i : grid0.Coords) (x0 : Vec F S512x128 .bf16) (x3 : Vec F S512x128 .f32) : Head F :=
  ⟨BitVec.ofNat 32 (i 1).val, BitVec.ofNat 32 (i 2).val, k0_pay15 x3, k0_pay16 x0, laneIx, k0_pay17, k0_pay20, k0_pay21 i x3, k0_pay22 i x3⟩

/-- The first part at a point that fills the kept buffers. -/
theorem fill (c : Dev nD) (i : grid0.Coords) (h1 : k0_cond1 i = 1#1) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole)
    (x0 : Vec F S512x128 .bf16) (x1 x2 : Vec F S1x128x8192 .f32) (x3 : Vec F S512x128 .f32) (x4 : Vec F S8x8192 .f32)
    (E : Set ℕ) (Φ : Head F → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg9 fullShare (kaug x1 (keyRow0 i h1 x4) (keyRow1 i h1 x4))
            ∗ owns (c : Thread nD τ) arg10 fullShare (vaug x2)) -∗ ∀ r, ⌜r = head i x0 x3⌝ -∗ Φ r))
      ⊢ wp frame (wpE (defs₀ (F := F)) 𝒱₀ c none) E (k0_part3 i arg3 harg3 arg4 harg4 arg5 harg5 arg6 harg6 arg7 harg7 arg8 harg8 arg9 harg9 arg10 harg10) Φ := by
  rw [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d9, %f9, -, H9⟩, ⟨%d10, %f10, -, H10⟩, Hk⟩
  obtain rfl := harg3.eq_unread hf0; obtain rfl := harg4.eq_unread hf1; obtain rfl := harg5.eq_unread hf2
  obtain rfl := harg6.eq_unread hf3; obtain rfl := harg7.eq_unread hf4
  sl_unfold [k0_part3_skel]
  simp only [k0_part1_eq_skeleton, k0_part2_eq_skeleton, k0_part1_skel, k0_part2_skel]
  sl_exec
  sl_step
  rw [tile_whole harg6, tile_whole harg3]
  iapply Hk $$ [H0 H1 H2 H3 H4 H9 H10]
  swap
  · ipureintro; rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H9]
  · iexists _; isplitr; swap; · iexact H9
    ipureintro
    refine (View.read_writes_eq_canon _ _ _ (cover_k _ _ _)).trans ?_
    rw [View.readAt_eq_ld, View.readAt_eq_ld, View.readAt_eq_ld, hf1, hf4]; rfl
  iexists _; isplitr; swap; · iexact H10
  ipureintro
  refine (View.read_writes_eq_canon _ _ _ (cover_v _ _)).trans ?_
  simp only [View.readAt_eq_ld, hf2]; rfl

/-- The first part at a point that finds them filled. -/
theorem keep (c : Dev nD) (i : grid0.Coords) (h1 : ¬ k0_cond1 i = 1#1) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole)
    (x0 : Vec F S512x128 .bf16) (x3 : Vec F S512x128 .f32)
    (E : Set ℕ) (Φ : Head F → sProp 𝕄) :
    iprop(owns (c : Thread nD τ) arg3 fullShare x0 ∗ owns (c : Thread nD τ) arg6 fullShare x3
        ∗ (iprop(owns (c : Thread nD τ) arg3 fullShare x0 ∗ owns (c : Thread nD τ) arg6 fullShare x3) -∗ ∀ r, ⌜r = head i x0 x3⌝ -∗ Φ r))
      ⊢ wp frame (wpE (defs₀ (F := F)) 𝒱₀ c none) E (k0_part3 i arg3 harg3 arg4 harg4 arg5 harg5 arg6 harg6 arg7 harg7 arg8 harg8 arg9 harg9 arg10 harg10) Φ := by
  rw [k0_part3_eq_skeleton]
  unfold owns
  iintro ⟨⟨%f0, %hf0, H0⟩, ⟨%f3, %hf3, H3⟩, Hk⟩
  obtain rfl := harg3.eq_unread hf0
  obtain rfl := harg6.eq_unread hf3
  sl_unfold [k0_part3_skel]
  sl_exec
  sl_step
  rw [tile_whole harg6, tile_whole harg3]
  iapply Hk $$ [H0 H3]
  swap
  · ipureintro; rfl
  isplitl [H0]
  · iexists _; isplitr; · ipureintro; exact hf0
    iexact H0
  iexists _; isplitr; · ipureintro; exact hf3
  iexact H3

/-- One trip of the loop over the wide blocks yields `wide`. -/
theorem trip_eq (c : Dev nD) (i : grid0.Coords) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole)
    (x0 : Vec F S512x128 .bf16) (x3 : Vec F S512x128 .f32) (X9 : BufTy.Contents (Elt F) arg9.view.ty) (X10 : BufTy.Contents (Elt F) arg10.view.ty)
    (k : Fin (k0_t1_loop i).trips) (a : Carry F) :
    tripR_k0_t1 (F := F) 𝒱₀ c none i arg3 harg3 arg4 harg4 arg5 harg5 arg6 harg6 arg7 harg7 arg8 harg8 arg9 harg9 arg10 harg10 (BitVec.ofNat 32 (i 2).val) (k0_pay16 x0) laneIx k0_pay17 (q0 i x0 x3) (g1 i x3) (k0_pay25 laneIx) 9#32 X9 X10 k a
      = wide i x0 x3 (View.readAt (Elt F) arg9.view (Rect.unit (s := S256x8192) (k0_off2 i k) S256x1024.size (k0_off2_inb i k)).toLoadRect X9)
          (View.readAt (Elt F) arg10.view (Rect.unit (s := S144x8192) (k0_off3 i k) S144x1024.size (k0_off3_inb i k)).toLoadRect X10) a := by
  unfold tripR_k0_t1 trip_k0_t1
  rfl

theorem st_eq (c : Dev nD) (i : grid0.Coords) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole)
    (x0 : Vec F S512x128 .bf16) (x3 : Vec F S512x128 .f32) (K : Vec F S256x8192 .bf16) (W : Vec F S144x8192 .bf16) (k : ℕ) :
    st_k0_t1 (F := F) 𝒱₀ c none i arg3 harg3 arg4 harg4 arg5 harg5 arg6 harg6 arg7 harg7 arg8 harg8 arg9 harg9 arg10 harg10 (BitVec.ofNat 32 (i 2).val) (k0_pay16 x0) laneIx k0_pay17 (q0 i x0 x3) (g1 i x3) (k0_pay25 laneIx) 9#32
      (harg9.unread K) (harg10.unread W) start k = before i x0 x3 K W k := by
  induction k with
  | zero => rfl
  | succ k ih =>
    unfold before
    by_cases h : k < (k0_t1_loop i).trips
    · rw [dif_pos h, st_k0_t1_succ (k := ⟨k, h⟩), ih, trip_eq, View.readAt_eq_ld, View.readAt_eq_ld, harg9.read_unread, harg10.read_unread]
    · rw [dif_neg h, st_k0_t1.eq_2]; unfold st_k0_t1Step; rw [dif_neg h, ih]

theorem trips2 (i : grid0.Coords) : (k0_t2_loop i).trips = 0 := Nat.le_zero.mp (k0_t2_abs i).2.1

/-- What the scan over the wide blocks hands on. -/
abbrev Scanned (F : FTy → Type) [FloatOps F] := Σ' (v94 : FVec F S512x256 .bf16) (v97 : IVec S512x512 1) (v124_0 : FVec F S512x1 .f32) (v124_1 : FVec F S512x1 .f32) (v124_2 : FVec F S512x1 .f32) (v124_3 : FVec F S512x1 .f32) (v124_4 : FVec F S512x128 .f32) (c2_i32_38 : BitVec 32), BitVec 1

def scanned (i : grid0.Coords) (x0 : Vec F S512x128 .bf16) (x3 : Vec F S512x128 .f32) (a : Carry F) : Scanned F :=
  ⟨q1 i x0 x3, k0_pay27, a.1, a.2.1, a.2.2.1, a.2.2.2.1, a.2.2.2.2, 2#32, Scalar.cmpi .eq 2#32 0#32⟩

/-- The scan over the wide blocks. -/
theorem scan (c : Dev nD) (i : grid0.Coords) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole)
    (x0 : Vec F S512x128 .bf16) (x3 : Vec F S512x128 .f32) (K : Vec F S256x8192 .bf16) (W : Vec F S144x8192 .bf16)
    (E : Set ℕ) (Φ : Scanned F → sProp 𝕄) :
    iprop(owns (c : Thread nD τ) arg9 fullShare K ∗ owns (c : Thread nD τ) arg10 fullShare W
        ∗ (iprop(owns (c : Thread nD τ) arg9 fullShare K ∗ owns (c : Thread nD τ) arg10 fullShare W)
            -∗ ∀ r, ⌜r = scanned i x0 x3 (before i x0 x3 K W (k0_t1_loop i).trips)⌝ -∗ Φ r))
      ⊢ wp frame (wpE (defs₀ (F := F)) 𝒱₀ c none) E (k0_part5 i arg3 harg3 arg4 harg4 arg5 harg5 arg6 harg6 arg7 harg7 arg8 harg8 arg9 harg9 arg10 harg10 (BitVec.ofNat 32 (i 2).val) (k0_pay16 x0) laneIx k0_pay17 (q0 i x0 x3) (g1 i x3) (k0_pay25 laneIx) 9#32) Φ := by
  rw [k0_part5_eq_skeleton]
  unfold owns
  iintro ⟨⟨%f9, %hf9, H9⟩, ⟨%f10, %hf10, H10⟩, Hk⟩
  obtain rfl := harg9.eq_unread hf9; obtain rfl := harg10.eq_unread hf10
  sl_unfold [k0_part5_skel]
  sl_exec
  sl_step
  iapply Hk $$ [H9 H10]
  · isplitl [H9]
    · iexists _; isplitr; · ipureintro; exact hf9
      iexact H9
    iexists _; isplitr; · ipureintro; exact hf10
    iexact H10
  ipureintro
  have h0 : Scf.trips (k0_t2_loop i).lb (k0_t2_loop i).ub (k0_t2_loop i).st = 0 := trips2 i
  rw [h0]
  simp only [st_k0_t2_zero]
  unfold scanned; rw [← st_eq c i arg3 harg3 arg4 harg4 arg5 harg5 arg6 harg6 arg7 harg7 arg8 harg8 arg9 harg9 arg10 harg10 x0 x3 K W]; rfl

/-- What the last part hands to the store. -/
abbrev Tail (F : FTy → Type) [FloatOps F] := Σ' (v138_1 : FVec F S512x1 .f32) (v138_3 : FVec F S512x1 .f32) (v138_4 : FVec F S512x128 .f32) (v144 : Vec F S144x512 .bf16) (v155 : FVec F S512x1 .f32) (v160 : FVec F S512x1 .f32) (v161 : FVec F S512x128 .f32) (v167 : FVec F S512x1 .f32), FVec F S512x512 .f32

def tail (i : grid0.Coords) (x0 : Vec F S512x128 .bf16) (x3 : Vec F S512x128 .f32) (kb : Vec F S256x512 .bf16)
    (vb : Vec F S144x512 .bf16) (a : Carry F) : Tail F :=
  ⟨a.2.1, a.2.2.2.1, a.2.2.2.2, vb, k0_pay66 (q0 i x0 x3) k0_pay27 a.1 kb, k0_pay68 (q0 i x0 x3) k0_pay27 a.1 a.2.2.1 kb vb,
    k0_pay69 (q0 i x0 x3) k0_pay27 a.1 kb vb, k0_pay71 (q1 i x0 x3) k0_pay27 a.2.1 kb, k0_pay72 (q1 i x0 x3) k0_pay27 a.2.1 kb⟩

/-- The narrow block where there is one, and the last block. -/
theorem close (c : Dev nD) (i : grid0.Coords) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole)
    (x0 : Vec F S512x128 .bf16) (x3 : Vec F S512x128 .f32) (K : Vec F S256x8192 .bf16) (W : Vec F S144x8192 .bf16) (a : Carry F)
    (ha : a = before i x0 x3 K W (k0_t1_loop i).trips) (E : Set ℕ) (Φ : Tail F → sProp 𝕄) :
    iprop(owns (c : Thread nD τ) arg9 fullShare K ∗ owns (c : Thread nD τ) arg10 fullShare W
        ∗ (iprop(owns (c : Thread nD τ) arg9 fullShare K ∗ owns (c : Thread nD τ) arg10 fullShare W)
            -∗ ∀ r, ⌜r = tail i x0 x3 (View.ld K (Rect.unit (s := S256x8192) (k0_off8 i) S256x512.size (k0_off8_inb i)))
              (View.ld W (Rect.unit (s := S144x8192) (k0_off9 i) S144x512.size (k0_off9_inb i))) (atLast i x0 x3 K W)⌝ -∗ Φ r))
      ⊢ wp frame (wpE (defs₀ (F := F)) 𝒱₀ c none) E (k0_part6 i arg3 harg3 arg4 harg4 arg5 harg5 arg6 harg6 arg7 harg7 arg8 harg8 arg9 harg9 arg10 harg10 (BitVec.ofNat 32 (i 2).val) k0_pay17 (q0 i x0 x3) (q1 i x0 x3) k0_pay27 a.1 a.2.1 a.2.2.1 a.2.2.2.1 a.2.2.2.2 2#32 (Scalar.cmpi .eq 2#32 0#32)) Φ := by
  rw [k0_part6_eq_skeleton]
  unfold owns
  iintro ⟨⟨%f9, %hf9, H9⟩, ⟨%f10, %hf10, H10⟩, Hk⟩
  obtain rfl := harg9.eq_unread hf9; obtain rfl := harg10.eq_unread hf10
  sl_unfold [k0_part6_skel]
  by_cases h2 : k0_cond2 i = 1#1
  · sl_exec
    sl_step
    iapply Hk $$ [H9 H10]
    · isplitl [H9]
      · iexists _; isplitr; · ipureintro; exact hf9
        iexact H9
      iexists _; isplitr; · ipureintro; exact hf10
      iexact H10
    ipureintro
    unfold atLast
    rw [dif_pos h2]
    subst ha; simp only [View.readAt_eq_ld, hf9, hf10]; rfl
  · sl_exec
    sl_step
    iapply Hk $$ [H9 H10]
    · isplitl [H9]
      · iexists _; isplitr; · ipureintro; exact hf9
        iexact H9
      iexists _; isplitr; · ipureintro; exact hf10
      iexact H10
    ipureintro
    unfold atLast
    rw [dif_neg h2]
    subst ha; simp only [View.readAt_eq_ld, hf9, hf10]; rfl

/-- The body after its first part. -/
def rest (i : grid0.Coords) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole) : Head F → Prog (TpuEff nD τ sig (Elt F) Λ₀ .tc) PUnit := fun ⟨arg1, arg2, v4, v6, v7, v9, v26, v37, v39⟩ => do
  let ⟨v51, v82, v84, c9_i32⟩ ← k0_part4 i arg3 harg3 arg4 harg4 arg5 harg5 arg6 harg6 arg7 harg7 arg8 harg8 arg9 harg9 arg10 harg10 arg1 v4 v6 v7 v9 v26 v37 v39
  let ⟨v94, v97, v124_0, v124_1, v124_2, v124_3, v124_4, c2_i32_38, v125⟩ ← k0_part5 i arg3 harg3 arg4 harg4 arg5 harg5 arg6 harg6 arg7 harg7 arg8 harg8 arg9 harg9 arg10 harg10 arg2 v6 v7 v9 v51 v82 v84 c9_i32
  let ⟨v138_1, v138_3, v138_4, v144, v155, v160, v161, v167, v169⟩ ← k0_part6 i arg3 harg3 arg4 harg4 arg5 harg5 arg6 harg6 arg7 harg7 arg8 harg8 arg9 harg9 arg10 harg10 arg2 v9 v51 v94 v97 v124_0 v124_1 v124_2 v124_3 v124_4 c2_i32_38 v125
  let v194 : Vec F S512x128 .bf16 ← Prog.lift (.load arg8 (Rect.unit (s := S512x128) ![0, 0] S512x128.size inb_S512x128_S512x128_0_0).toLoadRect (View.loadsAt_vmem h_S512x128))
  Prog.lift (.store arg8 (Rect.unit (s := S512x128) ![0, 0] S512x128.size inb_S512x128_S512x128_0_0) (k0_pay1 v9 v138_1 v138_3 v138_4 v144 v155 v160 v161 v167 v169) Finset.univ (View.stores_vmem h_S512x128 (harg8.storeExact_slice rfl _ packedbf16_S512x128_S512x128_0_0) (fun _ => rfl)) (.inl rfl))
  pure ⟨⟩

theorem body_eq (i : grid0.Coords) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole) :
    cc0_fox_prompt (F := F) i arg3 harg3 arg4 harg4 arg5 harg5 arg6 harg6 arg7 harg7 arg8 harg8 arg9 harg9 arg10 harg10 = (k0_part3 i arg3 harg3 arg4 harg4 arg5 harg5 arg6 harg6 arg7 harg7 arg8 harg8 arg9 harg9 arg10 harg10 >>= rest i arg3 harg3 arg4 harg4 arg5 harg5 arg6 harg6 arg7 harg7 arg8 harg8 arg9 harg9 arg10 harg10) := rfl

/-- The body's end: the output block stored. -/
def put (arg8 : Memref sig .tc .vmem S512x128 .bf16) (harg8 : arg8.IsWhole) : Tail F → Prog (TpuEff nD τ sig (Elt F) Λ₀ .tc) PUnit :=
  fun ⟨v138_1, v138_3, v138_4, v144, v155, v160, v161, v167, v169⟩ => do
  let v194 : Vec F S512x128 .bf16 ← Prog.lift (.load arg8 (Rect.unit (s := S512x128) ![0, 0] S512x128.size inb_S512x128_S512x128_0_0).toLoadRect (View.loadsAt_vmem h_S512x128))
  Prog.lift (.store arg8 (Rect.unit (s := S512x128) ![0, 0] S512x128.size inb_S512x128_S512x128_0_0) (k0_pay1 k0_pay17 v138_1 v138_3 v138_4 v144 v155 v160 v161 v167 v169) Finset.univ (View.stores_vmem h_S512x128 (harg8.storeExact_slice rfl _ packedbf16_S512x128_S512x128_0_0) (fun _ => rfl)) (.inl rfl))
  pure ⟨⟩

/-- The last part and the store, from what the scan hands on. -/
def fold (i : grid0.Coords) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole) (x0 : Vec F S512x128 .bf16) (x3 : Vec F S512x128 .f32) : Scanned F → Prog (TpuEff nD τ sig (Elt F) Λ₀ .tc) PUnit :=
  fun ⟨v94, v97, v124_0, v124_1, v124_2, v124_3, v124_4, c2_i32_38, v125⟩ =>
    k0_part6 i arg3 harg3 arg4 harg4 arg5 harg5 arg6 harg6 arg7 harg7 arg8 harg8 arg9 harg9 arg10 harg10 (BitVec.ofNat 32 (i 2).val) k0_pay17 (q0 i x0 x3) v94 v97 v124_0 v124_1 v124_2 v124_3 v124_4 c2_i32_38 v125 >>= put arg8 harg8

theorem rest_eq (i : grid0.Coords) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole) (x0 : Vec F S512x128 .bf16) (x3 : Vec F S512x128 .f32) :
    rest i arg3 harg3 arg4 harg4 arg5 harg5 arg6 harg6 arg7 harg7 arg8 harg8 arg9 harg9 arg10 harg10 (head i x0 x3) = (k0_part5 i arg3 harg3 arg4 harg4 arg5 harg5 arg6 harg6 arg7 harg7 arg8 harg8 arg9 harg9 arg10 harg10 (BitVec.ofNat 32 (i 2).val) (k0_pay16 x0) laneIx k0_pay17 (q0 i x0 x3) (g1 i x3) (k0_pay25 laneIx) 9#32
      >>= fold i arg3 harg3 arg4 harg4 arg5 harg5 arg6 harg6 arg7 harg7 arg8 harg8 arg9 harg9 arg10 harg10 x0 x3) := rfl

theorem put_run (c : Dev nD) (i : grid0.Coords) (arg8 : Memref sig .tc .vmem S512x128 .bf16) (harg8 : arg8.IsWhole)
    (x0 : Vec F S512x128 .bf16) (x3 : Vec F S512x128 .f32) (kb : Vec F S256x512 .bf16) (vb : Vec F S144x512 .bf16) (a : Carry F)
    (E : Set ℕ) (Φ : PUnit → sProp 𝕄) :
    iprop((∃ d, owns (c : Thread nD τ) arg8 fullShare d) ∗ (owns (c : Thread nD τ) arg8 fullShare (lastOut i x0 x3 kb vb a) -∗ Φ ⟨⟩))
      ⊢ wp frame (wpE (defs₀ (F := F)) 𝒱₀ c none) E (put arg8 harg8 (tail i x0 x3 kb vb a)) Φ := by
  unfold owns
  iintro ⟨⟨%d8, %f8, -, H8⟩, Hk⟩
  sl_unfold [put, tail]
  sl_exec
  sl_step
  iapply Hk
  iexists _; isplitr; swap; · iexact H8
  ipureintro
  refine (View.read_writes_eq_canon _ _ _ (cover_o _)).trans ?_
  rw [View.canon_unit_zero hz2]; rfl

/-- The rest of the body: from the kept buffers at `K` and `W`, the output block at `stored`. -/
theorem finish (c : Dev nD) (i : grid0.Coords) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole)
    (x0 : Vec F S512x128 .bf16) (x3 : Vec F S512x128 .f32) (K : Vec F S256x8192 .bf16) (W : Vec F S144x8192 .bf16)
    (E : Set ℕ) (Φ : PUnit → sProp 𝕄) :
    iprop((∃ d, owns (c : Thread nD τ) arg8 fullShare d) ∗ owns (c : Thread nD τ) arg9 fullShare K ∗ owns (c : Thread nD τ) arg10 fullShare W
        ∗ (iprop(owns (c : Thread nD τ) arg8 fullShare (stored i x0 x3 K W) ∗ owns (c : Thread nD τ) arg9 fullShare K ∗ owns (c : Thread nD τ) arg10 fullShare W) -∗ Φ ⟨⟩))
      ⊢ wp frame (wpE (defs₀ (F := F)) 𝒱₀ c none) E (rest i arg3 harg3 arg4 harg4 arg5 harg5 arg6 harg6 arg7 harg7 arg8 harg8 arg9 harg9 arg10 harg10 (head i x0 x3)) Φ := by
  rw [rest_eq, wp_bind]
  iintro ⟨H8, H9, H10, Hk⟩
  iapply (scan c i arg3 harg3 arg4 harg4 arg5 harg5 arg6 harg6 arg7 harg7 arg8 harg8 arg9 harg9 arg10 harg10 x0 x3 K W)
  isplitl [H9]; · iexact H9
  isplitl [H10]; · iexact H10
  iintro ⟨H9, H10⟩ %r %hr
  subst hr
  unfold scanned fold
  rw [wp_bind]
  iapply (close c i arg3 harg3 arg4 harg4 arg5 harg5 arg6 harg6 arg7 harg7 arg8 harg8 arg9 harg9 arg10 harg10 x0 x3 K W _ rfl)
  isplitl [H9]; · iexact H9
  isplitl [H10]; · iexact H10
  iintro ⟨H9, H10⟩ %r %hr
  subst hr
  iapply (put_run c i arg8 harg8 x0 x3)
  isplitl [H8]; · iexact H8
  iintro H8
  iapply Hk
  isplitl [H8]; · iexact H8
  isplitl [H9]; · iexact H9
  iexact H10

/-- The body at a point that fills the kept buffers. -/
theorem body_fill (c : Dev nD) (i : grid0.Coords) (h1 : k0_cond1 i = 1#1) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole)
    (x0 : Vec F S512x128 .bf16) (x1 x2 : Vec F S1x128x8192 .f32) (x3 : Vec F S512x128 .f32) (x4 : Vec F S8x8192 .f32)
    (E : Set ℕ) (Φ : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (stored i x0 x3 (kaug x1 (keyRow0 i h1 x4) (keyRow1 i h1 x4)) (vaug x2))
            ∗ owns (c : Thread nD τ) arg9 fullShare (kaug x1 (keyRow0 i h1 x4) (keyRow1 i h1 x4))
            ∗ owns (c : Thread nD τ) arg10 fullShare (vaug x2)) -∗ Φ ⟨⟩))
      ⊢ wp frame (wpE (defs₀ (F := F)) 𝒱₀ c none) E (cc0_fox_prompt i arg3 harg3 arg4 harg4 arg5 harg5 arg6 harg6 arg7 harg7 arg8 harg8 arg9 harg9 arg10 harg10) Φ := by
  rw [body_eq, wp_bind]
  iintro ⟨H3, H4, H5, H6, H7, H8, H9, H10, Hk⟩
  iapply (fill c i h1 arg3 harg3 arg4 harg4 arg5 harg5 arg6 harg6 arg7 harg7 arg8 harg8 arg9 harg9 arg10 harg10 x0 x1 x2 x3 x4)
  isplitl [H3]; · iexact H3
  isplitl [H4]; · iexact H4
  isplitl [H5]; · iexact H5
  isplitl [H6]; · iexact H6
  isplitl [H7]; · iexact H7
  isplitl [H9]; · iexact H9
  isplitl [H10]; · iexact H10
  iintro ⟨H3, H4, H5, H6, H7, H9, H10⟩ %r %hr
  subst hr
  iapply (finish c i arg3 harg3 arg4 harg4 arg5 harg5 arg6 harg6 arg7 harg7 arg8 harg8 arg9 harg9 arg10 harg10 x0 x3)
  isplitl [H8]; · iexact H8
  isplitl [H9]; · iexact H9
  isplitl [H10]; · iexact H10
  iintro ⟨H8, H9, H10⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at a point that finds the kept buffers filled. -/
theorem body_keep (c : Dev nD) (i : grid0.Coords) (h1 : ¬ k0_cond1 i = 1#1) (arg3 : Memref sig .tc .vmem S512x128 .bf16) (harg3 : arg3.IsWhole) (arg4 : Memref sig .tc .vmem S1x128x8192 .f32) (harg4 : arg4.IsWhole) (arg5 : Memref sig .tc .vmem S1x128x8192 .f32) (harg5 : arg5.IsWhole) (arg6 : Memref sig .tc .vmem S512x128 .f32) (harg6 : arg6.IsWhole) (arg7 : Memref sig .tc .vmem S8x8192 .f32) (harg7 : arg7.IsWhole) (arg8 : Memref sig .tc .vmem S512x128 .bf16) (harg8 : arg8.IsWhole) (arg9 : Memref sig .tc .vmem S256x8192 .bf16) (harg9 : arg9.IsWhole) (arg10 : Memref sig .tc .vmem S144x8192 .bf16) (harg10 : arg10.IsWhole)
    (x0 : Vec F S512x128 .bf16) (x3 : Vec F S512x128 .f32) (K : Vec F S256x8192 .bf16) (W : Vec F S144x8192 .bf16)
    (E : Set ℕ) (Φ : PUnit → sProp 𝕄) :
    iprop(owns (c : Thread nD τ) arg3 fullShare x0 ∗ owns (c : Thread nD τ) arg6 fullShare x3 ∗ (∃ d, owns (c : Thread nD τ) arg8 fullShare d)
        ∗ owns (c : Thread nD τ) arg9 fullShare K ∗ owns (c : Thread nD τ) arg10 fullShare W
        ∗ (iprop(owns (c : Thread nD τ) arg3 fullShare x0 ∗ owns (c : Thread nD τ) arg6 fullShare x3
            ∗ owns (c : Thread nD τ) arg8 fullShare (stored i x0 x3 K W)
            ∗ owns (c : Thread nD τ) arg9 fullShare K ∗ owns (c : Thread nD τ) arg10 fullShare W) -∗ Φ ⟨⟩))
      ⊢ wp frame (wpE (defs₀ (F := F)) 𝒱₀ c none) E (cc0_fox_prompt i arg3 harg3 arg4 harg4 arg5 harg5 arg6 harg6 arg7 harg7 arg8 harg8 arg9 harg9 arg10 harg10) Φ := by
  rw [body_eq, wp_bind]
  iintro ⟨H3, H6, H8, H9, H10, Hk⟩
  iapply (keep c i h1 arg3 harg3 arg4 harg4 arg5 harg5 arg6 harg6 arg7 harg7 arg8 harg8 arg9 harg9 arg10 harg10 x0 x3)
  isplitl [H3]; · iexact H3
  isplitl [H6]; · iexact H6
  iintro ⟨H3, H6⟩ %r %hr
  subst hr
  iapply (finish c i arg3 harg3 arg4 harg4 arg5 harg5 arg6 harg6 arg7 harg7 arg8 harg8 arg9 harg9 arg10 harg10 x0 x3)
  isplitl [H8]; · iexact H8
  isplitl [H9]; · iexact H9
  isplitl [H10]; · iexact H10
  iintro ⟨H8, H9, H10⟩
  iapply Hk
  isplitl [H3]; · iexact H3
  isplitl [H6]; · iexact H6
  isplitl [H8]; · iexact H8
  isplitl [H9]; · iexact H9
  iexact H10

end Cert.KernelIdeal.Attn

end
-- ==== Proof.Pipe.lean ====
/- The attention call's run: the proof data of its pipeline — the kept buffers tracked from the point that fills them
   to the last point of the same batch row and pair of heads —, the body obligation and the run of the program. -/
module

public import proofs.«01_k».proof.Proof.Run

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The point that fills the kept buffers -/

theorem fills : ∀ t : Fin cfg0.N, k0_cond1 (grid0.coords t) = 1#1 ↔ t.val % 16 = 0 :=
  (by decide +kernel : ∀ t : Fin grid0.N, k0_cond1 (grid0.coords t) = 1#1 ↔ t.val % 16 = 0)

theorem points : cfg0.N = 256 := by decide +kernel

/-- The filling point of the sixteen that point `n` is one of. -/
def first (n : ℕ) : Fin cfg0.N := ⟨16 * (n / 16 % 16), by have := points; omega⟩

theorem first_fills (n : ℕ) : k0_cond1 (grid0.coords (first n)) = 1#1 := (fills _).mpr (by show 16 * (n / 16 % 16) % 16 = 0; omega)

theorem first_self (t : Fin cfg0.N) (h : t.val % 16 = 0) : first t.val = t :=
  Fin.ext (by have := points; have := t.isLt; show 16 * (t.val / 16 % 16) = t.val; omega)

theorem first_succ (n : ℕ) (h : (n + 1) % 16 ≠ 0) : first (n + 1) = first n :=
  Fin.ext (by show 16 * ((n + 1) / 16 % 16) = 16 * (n / 16 % 16); omega)

/-- The keys with their gate rows, as a filling point `t` leaves them. -/
def keysAt (c : Dev nD) (t : Fin cfg0.N) (h : k0_cond1 (grid0.coords t) = 1#1) : Vec F S256x8192 .bf16 :=
  kaug (iblk m c 1 t) (keyRow0 (grid0.coords t) h (iblk m c 4 t)) (keyRow1 (grid0.coords t) h (iblk m c 4 t))
/-- The values with their row of ones, as a filling point `t` leaves them. -/
def valsAt (c : Dev nD) (t : Fin cfg0.N) : Vec F S144x8192 .bf16 := vaug (iblk m c 2 t)

/-- What the kept buffers hold at point `n`. -/
def keys (c : Dev nD) (n : ℕ) : Vec F S256x8192 .bf16 := keysAt m c (first n) (first_fills n)
def vals (c : Dev nD) (n : ℕ) : Vec F S144x8192 .bf16 := valsAt m c (first n)

theorem keys_of (c : Dev nD) {n : ℕ} {t : Fin cfg0.N} (e : first n = t) (h) : keys m c n = keysAt m c t h := by
  subst e; rfl
theorem vals_of (c : Dev nD) {n : ℕ} {t : Fin cfg0.N} (e : first n = t) : vals m c n = valsAt m c t := by
  subst e; rfl

/-! ## The proof data -/

/-- The invariant at point `n` within a row's points: the kept buffers at `keys` and `vals`. -/
def kept (c : Dev nD) (n : ℕ) : sProp 𝕄 :=
  iprop((owns (c : Thread nD τ) (Memref.whole cc0_scratch0) fullShare (keys m c n) ∗ owns (c : Thread nD τ) (Memref.whole cc0_scratch1) fullShare (vals m c n))
    ∗ ∃ r, prngReg c r)

def inv (c : Dev nD) (n : ℕ) : sProp 𝕄 := if n % 16 = 0 then ΦA spec0 c else kept m c n

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => stored (grid0.coords t) (iblk m c 0 t) (iblk m c 3 t) (keys m c t.val) (vals m c t.val)
  Φ s := inv m c s.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = stored (grid0.coords t) (iblk m c 0 t) (iblk m c 3 t) (keys m c t.val) (vals m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The invariant's two forms -/

theorem open_any (c : Dev nD) : (ΦA spec0 c : sProp 𝕄) ⊢
    iprop(((∃ d, owns (c : Thread nD τ) (Memref.whole cc0_scratch0) fullShare d) ∗ (∃ d, owns (c : Thread nD τ) (Memref.whole cc0_scratch1) fullShare d))
      ∗ ∃ r, prngReg c r) := by
  unfold ΦA
  rw [scopedRest0_eq]
  iintro ⟨⟨⟨%f, H⟩, ⟨%g, G⟩⟩, Hr⟩
  isplitr [Hr]
  · isplitl [H]
    · iexists f; rw [owns_whole]; iexact H
    · iexists g; rw [owns_whole]; iexact G
  iexact Hr

theorem forget (c : Dev nD) (n : ℕ) : (kept m c n : sProp 𝕄) ⊢ ΦA spec0 c := by
  unfold ΦA kept
  rw [scopedRest0_eq, owns_whole, owns_whole]
  iintro ⟨⟨H, G⟩, Hr⟩
  isplitr [Hr]
  · isplitl [H]
    · iexists _; iexact H
    · iexists _; iexact G
  iexact Hr

theorem inv_pos (c : Dev nD) {n : ℕ} (h : n % 16 = 0) : (inv m c n : sProp 𝕄) = ΦA spec0 c := if_pos h
theorem inv_neg (c : Dev nD) {n : ℕ} (h : ¬ n % 16 = 0) : (inv m c n : sProp 𝕄) = kept m c n := if_neg h

theorem kept_succ (c : Dev nD) (n : ℕ) (h : (n + 1) % 16 ≠ 0) : (kept m c (n + 1) : sProp 𝕄) = kept m c n := by
  have hk : keys m c (n + 1) = keys m c n := keys_of m c (first_succ n h) (first_fills n)
  have hv : vals m c (n + 1) = vals m c n := vals_of m c (first_succ n h)
  unfold kept; rw [hk, hv]

/-- The invariant after point `n`, from the kept buffers at that point's contents. -/
theorem inv_succ (c : Dev nD) (n : ℕ) : (kept m c n : sProp 𝕄) ⊢ inv m c (n + 1) := by
  by_cases h : (n + 1) % 16 = 0
  · rw [inv_pos m c h]; exact forget m c n
  · rw [inv_neg m c h, kept_succ m c n h]

/-! ## The body obligation -/

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = inv m c (t.val + 1) from rfl, show (dats m 0 c).Φ t.castSucc = inv m c t.val from rfl,
    show (dats m 0 c).owesAt () t.succ = (dats m 0 c).owesAt () t.castSucc from rfl, after0_0, after0_1, after0_2, after0_3, after0_4, after0_5]
  by_cases h : t.val % 16 = 0
  · have h1 := (fills t).mpr h
    rw [inv_pos m c h]
    have hk := keys_of m c (first_self t h) h1
    have hv := vals_of m c (first_self t h)
    iintro ⟨HΦ, Ho, ⟨%d0, H0⟩, ⟨%d1, H1⟩, ⟨%d2, H2⟩, ⟨%d3, H3⟩, ⟨%d4, H4⟩, ⟨%d5, H5⟩⟩
    ihave HΦ' := open_any c $$ HΦ
    icases HΦ' with ⟨⟨S0, S1⟩, Hr⟩
    iapply (body_fill c (grid0.coords t) h1 _ _ _ _ _ _ _ _ _ _ _ _ _ _ _ _ (iblk m c 0 t) (iblk m c 1 t) (iblk m c 2 t) (iblk m c 3 t) (iblk m c 4 t))
    isplitl [H0]; · iexact H0
    isplitl [H1]; · iexact H1
    isplitl [H2]; · iexact H2
    isplitl [H3]; · iexact H3
    isplitl [H4]; · iexact H4
    isplitl [H5]; · iexists _; iexact H5
    isplitl [S0]; · iexact S0
    isplitl [S1]; · iexact S1
    iintro ⟨H0, H1, H2, H3, H4, H5, S0, S1⟩
    rw [hk, hv]
    isplitl [S0 S1 Hr]
    · iapply (inv_succ m c t.val)
      unfold kept
      rw [hk, hv]
      isplitr [Hr]
      · isplitl [S0]; · iexact S0
        iexact S1
      iexact Hr
    isplitl [Ho]; · iexact Ho
    isplitl [H0]; · iexact H0
    isplitl [H1]; · iexact H1
    isplitl [H2]; · iexact H2
    isplitl [H3]; · iexact H3
    isplitl [H4]; · iexact H4
    iexact H5
  · have h1 := fun e => h ((fills t).mp e)
    rw [inv_neg m c h]
    iintro ⟨HΦ, Ho, ⟨%d0, H0⟩, ⟨%d1, H1⟩, ⟨%d2, H2⟩, ⟨%d3, H3⟩, ⟨%d4, H4⟩, ⟨%d5, H5⟩⟩
    unfold kept
    icases HΦ with ⟨⟨S0, S1⟩, Hr⟩
    iapply (body_keep c (grid0.coords t) h1 _ _ _ _ _ _ _ _ _ _ _ _ _ _ _ _ (iblk m c 0 t) (iblk m c 3 t) (keys m c t.val) (vals m c t.val))
    isplitl [H0]; · iexact H0
    isplitl [H3]; · iexact H3
    isplitl [H5]; · iexists _; iexact H5
    isplitl [S0]; · iexact S0
    isplitl [S1]; · iexact S1
    iintro ⟨H0, H3, H5, S0, S1⟩
    isplitl [S0 S1 Hr]
    · iapply (inv_succ m c t.val)
      unfold kept
      isplitr [Hr]
      · isplitl [S0]; · iexact S0
        iexact S1
      iexact Hr
    isplitl [Ho]; · iexact Ho
    isplitl [H0]; · iexact H0
    isplitl [H1]; · iexact H1
    isplitl [H2]; · iexact H2
    isplitl [H3]; · iexact H3
    isplitl [H4]; · iexact H4
    iexact H5

/-! ## The run and the frame -/

-- the implicit arguments are found by unifying the run's conclusion with this one, which takes unfolding plain
-- definitions in a metavariable's type
set_option backward.isDefEq.respectTransparency.types false in
/-- For any values, from any memory with zero counters: the program's every execution ends, with the call's arrays at what the
    proof data gives and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl)
    (hin := fun c => by
      rw [show (dats m 0 c).Φ 0 = inv m c 0 from rfl, inv_pos m c (by rfl)])
    (hout := fun c => by
      rw [show (dats m 0 c).Φ (Fin.last cfg0.N) = inv m c cfg0.N from rfl, inv_pos m c (by rw [points])])
    (hQ' := fun _ h => h)

/-- The same run, read at the arguments. -/
theorem run_args : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.KernelIdeal.Attn

end
-- ==== Proof.Mixer.lean ====
/- The row-wise arithmetic that the calls around the attention share, over the extended reals. -/
module

public import proofs.«01_k».proof.Proof.Gen.MlpReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic

namespace Cert.Mixer

/-- Coordinate `j` of a row over its root mean square, times the weight there. -/
def norm (x : Fin 1024 → EReal) (g : EReal) (j : Fin 1024) : EReal :=
  x j * Ideal.rsqrt (Ideal.div (∑ k, x k * x k) (Ideal.ofBits .f32 0x44800000#32) + Ideal.ofBits .f32 0x358637BD#32) * g

/-- The normed row, scaled and shifted by its conditioning. -/
def hidden (x g sc sh : Fin 1024 → EReal) (j : Fin 1024) : EReal := norm x (g j) j * (1 + sc j) + sh j

end Cert.Mixer

namespace Cert.MlpReferenceIdeal.Ref

open Cert.MlpReferenceIdeal Cert.MlpReferenceIdeal.Gen Cert.Mixer

/-- The reference's norm. -/
def normed (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2
    (Host.rsqrt (addf (Host.divf (broadcastInDim S4x8192x1 ![0, 1] bcast_S4x8192_S4x8192x1_0_1
      (Host.reduceAdd (mulf x x) (constant S_ .f32 0x00000000#32) reducesTo_S4x8192x1024_S4x8192_d2 h_S_))
      (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

theorem normed_apply (x : FVec Ideal S4x8192x1024 .f32) (g : FVec Ideal S1024 .f32) (b : Fin 4) (s : Fin 8192) (j : Fin 1024) :
    (normed x g (ix3 b s j) : EReal) = norm (fun k => x (ix3 b s k)) (g (ix1 j)) j := by
  pointwise [normed]
  rfl

/-- The reference's conditioned row, from the two slices of the conditioning. -/
def conditioned (x : FVec Ideal S4x8192x1024 .f32) (g : FVec Ideal S1024 .f32) (sc sh : FVec Ideal S4x1x1024 .f32) :
    FVec Ideal S4x8192x1024 .f32 :=
  addf (mulf (normed x g) (broadcastInDim S4x8192x1024 ![0, 1, 2] bcast_S4x1x1024_S4x8192x1024_0_1_2
      (addf (broadcastInDim S4x1x1024 ![] bcast_S_S4x1x1024 (constant S_ .f32 0x3F800000#32)) sc)))
    (broadcastInDim S4x8192x1024 ![0, 1, 2] bcast_S4x1x1024_S4x8192x1024_0_1_2 sh)

theorem conditioned_apply (x : FVec Ideal S4x8192x1024 .f32) (g : FVec Ideal S1024 .f32) (sc sh : FVec Ideal S4x1x1024 .f32)
    (b : Fin 4) (s : Fin 8192) (j : Fin 1024) :
    (conditioned x g sc sh (ix3 b s j) : EReal)
      = hidden (fun k => x (ix3 b s k)) (fun j => g (ix1 j)) (fun j => sc (ix3 b 0 j)) (fun j => sh (ix3 b 0 j)) j := by
  pointwise [conditioned]
  rw [normed_apply]
  rfl

/-- A sixth of the conditioning, from column `o`. -/
def cond (a : FVec Ideal S4x6144 .f32) (o : ℕ) (h : S4x1x6144.Slices ![0, 0, o] S4x1x1024) : FVec Ideal S4x1x1024 .f32 :=
  extractStridedSlice S4x1x1024 ![0, 0, o] (broadcastInDim S4x1x6144 ![0, 2] bcast_S4x6144_S4x1x6144_0_2 a) h

theorem cond_apply (a : FVec Ideal S4x6144 .f32) (o : ℕ) (h : S4x1x6144.Slices ![0, 0, o] S4x1x1024) (ho : o ≤ 5120)
    (b : Fin 4) (j : Fin 1024) : (cond a o h (ix3 b 0 j) : EReal) = a (ix2 b ⟨o + j.val, by omega⟩) := by
  pointwise [cond]

/-- The residual with the gated norm of the branch. -/
def residual (x f : FVec Ideal S4x8192x1024 .f32) (g : FVec Ideal S1024 .f32) (gt : FVec Ideal S4x1x1024 .f32) :
    FVec Ideal S4x8192x1024 .f32 :=
  addf x (mulf (broadcastInDim S4x8192x1024 ![0, 1, 2] bcast_S4x1x1024_S4x8192x1024_0_1_2 gt) (normed f g))

theorem residual_apply (x f : FVec Ideal S4x8192x1024 .f32) (g : FVec Ideal S1024 .f32) (gt : FVec Ideal S4x1x1024 .f32)
    (b : Fin 4) (s : Fin 8192) (j : Fin 1024) :
    (residual x f g gt (ix3 b s j) : EReal)
      = x (ix3 b s j) + gt (ix3 b 0 j) * norm (fun k => f (ix3 b s k)) (g (ix1 j)) j := by
  pointwise [residual]
  rw [normed_apply]

end Cert.MlpReferenceIdeal.Ref

end
-- ==== Proof.Mlp.lean ====
/- The channel mixer: the block that a grid point stores and the reference, read at an index, are one expression of the
   arguments. -/
module

public import proofs.«01_k».proof.Proof.Gen.MlpIdeal.Value
public import proofs.«01_k».proof.Proof.Mixer
public import Idealize.ShloMosaic.Lib.StableHlo.RunRead

@[expose] public section

set_option maxRecDepth 16384

noncomputable section

open Idealize.ShloMosaic Idealize.ShloMosaic.TcCoe Idealize.ShloMosaic.Tactic

namespace Cert.Mixer

/-- The squared positive part of a row's product with the first weights, at column `f`. -/
def up (h : Fin 1024 → EReal) (wu : Fin 1024 → Fin 4096 → EReal) (f : Fin 4096) : EReal :=
  max (∑ k, h k * wu k f) 0 * max (∑ k, h k * wu k f) 0

/-- Its product with the second weights. -/
def down (u : Fin 4096 → EReal) (wd : Fin 4096 → Fin 1024 → EReal) (j : Fin 1024) : EReal := ∑ f, u f * wd f j

end Cert.Mixer

namespace Cert.MlpReferenceIdeal.Ref

open Cert.MlpReferenceIdeal Cert.MlpReferenceIdeal.Gen Cert.MlpReferenceIdeal.Value Cert.Mixer

def upped (h : FVec Ideal S4x8192x1024 .f32) (wu : FVec Ideal S1024x4096 .f32) : FVec Ideal S4x8192x4096 .f32 :=
  mulf (maximumf (Host.dotGeneral dot_S4x8192x1024_S1024x4096_S4x8192x4096_2_0_01_1_n_n none h wu)
      (broadcastInDim S4x8192x4096 ![] bcast_S_S4x8192x4096 (constant S_ .f32 0x00000000#32)))
    (maximumf (Host.dotGeneral dot_S4x8192x1024_S1024x4096_S4x8192x4096_2_0_01_1_n_n none h wu)
      (broadcastInDim S4x8192x4096 ![] bcast_S_S4x8192x4096 (constant S_ .f32 0x00000000#32)))

def downed (u : FVec Ideal S4x8192x4096 .f32) (wd : FVec Ideal S4096x1024 .f32) : FVec Ideal S4x8192x1024 .f32 :=
  Host.dotGeneral dot_S4x8192x4096_S4096x1024_S4x8192x1024_2_0_01_1_n_n none u wd

theorem upped_apply (h : FVec Ideal S4x8192x1024 .f32) (wu : FVec Ideal S1024x4096 .f32) (b : Fin 4) (s : Fin 8192) (f : Fin 4096) :
    (upped h wu (ix3 b s f) : EReal) = up (fun k => h (ix3 b s k)) (fun k f => wu (ix2 k f)) f := by
  pointwise [upped]
  rfl

theorem downed_apply (u : FVec Ideal S4x8192x4096 .f32) (wd : FVec Ideal S4096x1024 .f32) (b : Fin 4) (s : Fin 8192) (j : Fin 1024) :
    (downed u wd (ix3 b s j) : EReal) = down (fun f => u (ix3 b s f)) (fun f j => wd (ix2 f j)) j := by
  pointwise [downed]
  rfl

/-- The whole mixer, as the reference composes it. -/
def mixer (x : FVec Ideal S4x8192x1024 .f32) (a : FVec Ideal S4x6144 .f32) (g g' : FVec Ideal S1024 .f32)
    (wu : FVec Ideal S1024x4096 .f32) (wd : FVec Ideal S4096x1024 .f32) : FVec Ideal S4x8192x1024 .f32 :=
  residual x (downed (upped (conditioned x g (cond a 4096 slices_S4x1x6144_S4x1x1024_0_0_4096)
    (cond a 3072 slices_S4x1x6144_S4x1x1024_0_0_3072)) wu) wd) g' (cond a 5120 slices_S4x1x6144_S4x1x1024_0_0_5120)

theorem mixer_apply (x : FVec Ideal S4x8192x1024 .f32) (a : FVec Ideal S4x6144 .f32) (g g' : FVec Ideal S1024 .f32)
    (wu : FVec Ideal S1024x4096 .f32) (wd : FVec Ideal S4096x1024 .f32) (b : Fin 4) (s : Fin 8192) (j : Fin 1024) :
    (mixer x a g g' wu wd (ix3 b s j) : EReal)
      = x (ix3 b s j) + a (ix2 b ⟨5120 + j.val, by omega⟩) * norm (down (up (hidden (fun k => x (ix3 b s k)) (fun j => g (ix1 j))
          (fun j => a (ix2 b ⟨4096 + j.val, by omega⟩)) (fun j => a (ix2 b ⟨3072 + j.val, by omega⟩)))
          (fun k f => wu (ix2 k f))) (fun f j => wd (ix2 f j))) (g' (ix1 j)) j := by
  rw [mixer, residual_apply, cond_apply _ _ _ (by decide)]
  refine congrArg₂ HAdd.hAdd (Eq.refl _) (congrArg₂ HMul.hMul (Eq.refl _) (congrArg (norm · _ j) (funext fun k => ?_)))
  rw [downed_apply]
  refine congrArg (down · _ k) (funext fun f => ?_)
  rw [upped_apply]
  refine congrArg (up · _ f) (funext fun e => ?_)
  rw [conditioned_apply]
  congr 1 <;> funext e <;> exact cond_apply _ _ _ (by decide) _ _

/-- The reference's result, of arguments that its memory holds. -/
theorem result_of (m : (ℓ : Loc nD τ sig) → Buf (Elt Ideal) ℓ) (c : Dev nD)
    (x : FVec Ideal S4x8192x1024 .f32)
    (a : FVec Ideal S4x6144 .f32)
    (g : FVec Ideal S1024 .f32)
    (g' : FVec Ideal S1024 .f32)
    (wu : FVec Ideal S1024x4096 .f32)
    (wd : FVec Ideal S4096x1024 .f32)
    (h0 : m ((c.tc : Thread nD τ).loc main_arg0) = x)
    (h1 : m ((c.tc : Thread nD τ).loc main_arg1) = a)
    (h2 : m ((c.tc : Thread nD τ).loc main_arg2) = g)
    (h3 : m ((c.tc : Thread nD τ).loc main_arg3) = g')
    (h4 : m ((c.tc : Thread nD τ).loc main_arg4) = wu)
    (h5 : m ((c.tc : Thread nD τ).loc main_arg5) = wd) :
    res_out0 m c = mixer x a g g' wu wd := by
  rw [← h0, ← h1, ← h2, ← h3, ← h4, ← h5]
  rfl

end Cert.MlpReferenceIdeal.Ref

namespace Cert.MlpIdeal.Value

open Cert.MlpIdeal Cert.MlpIdeal.Gen Cert.Mixer

theorem up_apply (x0 : Vec Ideal S1x256x1024 .f32) (x4 : Vec Ideal S1x1024 .f32) (x2 x1 : Vec Ideal S1x1x1024 .f32)
    (x6 : Vec Ideal S1024x4096 .bf16) (r : Fin 256) (f : Fin 4096) :
    (k0_pay2 x0 x4 x2 x1 x6 (ix2 r f) : EReal)
      = up (hidden (fun j => x0 (ix3 0 r j)) (fun j => x4 (ix2 0 j)) (fun j => x2 (ix3 0 0 j)) (fun j => x1 (ix3 0 0 j)))
          (fun k f => x6 (ix2 k f)) f := by
  pointwise [k0_pay2]
  rfl

theorem stored_apply (x0 : Vec Ideal S1x256x1024 .f32) (u : FVec Ideal S256x4096 .bf16) (x7 : FVec Ideal S4096x1024 .bf16)
    (x3 : Vec Ideal S1x1x1024 .f32) (x5 : Vec Ideal S1x1024 .f32) (r : Fin 256) (j : Fin 1024) :
    (k0_pay1 x0 u x7 x3 x5 (ix3 0 r j) : EReal)
      = x0 (ix3 0 r j) + x3 (ix3 0 0 j) * norm (down (fun f => u (ix2 r f)) (fun f j => x7 (ix2 f j))) (x5 (ix2 0 j)) j := by
  pointwise [k0_pay1]
  rfl

theorem out_apply (x0 : Vec Ideal S1x256x1024 .f32) (x1 x2 x3 : Vec Ideal S1x1x1024 .f32) (x4 x5 : Vec Ideal S1x1024 .f32)
    (x6 : Vec Ideal S1024x4096 .bf16) (x7 : Vec Ideal S4096x1024 .bf16) (r : Fin 256) (j : Fin 1024) :
    (out0_8 x0 x1 x2 x3 x4 x5 x6 x7 (ix3 0 r j) : EReal)
      = x0 (ix3 0 r j) + x3 (ix3 0 0 j) * norm (down (up (hidden (fun j => x0 (ix3 0 r j)) (fun j => x4 (ix2 0 j))
          (fun j => x2 (ix3 0 0 j)) (fun j => x1 (ix3 0 0 j))) (fun k f => x6 (ix2 k f))) (fun f j => x7 (ix2 f j))) (x5 (ix2 0 j)) j := by
  unfold out0_8
  canon_tiles z h using (cover0_8 (F := Ideal) _ _)
  idx_vars z
  obtain rfl := Fin.ext h1
  obtain rfl := Fin.ext h2
  obtain rfl : z0 = 0 := Subsingleton.elim _ _
  rw [stored_apply]
  simp only [up_apply]
  pointwise [k0_pay3]

variable (m : (ℓ : Loc nD τ sig) → Buf (Elt Ideal) ℓ) (c : Dev nD)

theorem points : cfg0.N = 128 := by decide

theorem idx : ∀ t : Fin cfg0.N,
    win0_0.index t = ![t.val / 32, t.val % 32, 0] ∧ win0_1.index t = ![t.val / 32, 0, 3] ∧ win0_2.index t = ![t.val / 32, 0, 4]
      ∧ win0_3.index t = ![t.val / 32, 0, 5] ∧ win0_4.index t = ![0, 0] ∧ win0_5.index t = ![0, 0] ∧ win0_6.index t = ![0, 0]
      ∧ win0_7.index t = ![0, 0] ∧ win0_8.index t = ![t.val / 32, t.val % 32, 0] :=
  (by decide +kernel : ∀ t : Fin grid0.N, _)

abbrev bat (t : Fin cfg0.N) : Fin 4 := ⟨t.val / 32, by have := points; omega⟩

abbrev pos (t : Fin cfg0.N) (r : Fin 256) : Fin 8192 := ⟨256 * (t.val % 32) + r.val, by omega⟩

/-- The arguments, at their shapes. -/
abbrev argX : FVec Ideal S4x8192x1024 .f32 := m ((c : Thread nD τ).loc main_arg0)
abbrev argA : FVec Ideal S4x6144 .f32 := m ((c : Thread nD τ).loc main_arg1)
abbrev argG : FVec Ideal S1024 .f32 := m ((c : Thread nD τ).loc main_arg2)
abbrev argG' : FVec Ideal S1024 .f32 := m ((c : Thread nD τ).loc main_arg3)
abbrev argU : FVec Ideal S1024x4096 .f32 := m ((c : Thread nD τ).loc main_arg4)
abbrev argD : FVec Ideal S4096x1024 .f32 := m ((c : Thread nD τ).loc main_arg5)

theorem x_at (t : Fin cfg0.N) (r : Fin 256) (j : Fin 1024) :
    (iblk m c 0 t (ix3 0 r j) : EReal) = argX m c (ix3 (bat t) (pos t r) j) := by
  blk_simp [iblk, idx t]
  rw [show ((win0_0.blk t).view.emb (ix3 0 r j)) = ix3 (bat t) (pos t r) j by blk_ext [idx t]]
  rfl

theorem shift_at (t : Fin cfg0.N) (j : Fin 1024) :
    (iblk m c 1 t (ix3 0 0 j) : EReal) = argA m c (ix2 (bat t) ⟨3072 + j.val, by omega⟩) := by
  blk_simp [iblk, idx t]
  rw [show ((win0_1.blk t).view.emb (ix3 0 0 j)) = ix3 (bat t) 0 ⟨3072 + j.val, by omega⟩ by blk_ext [idx t]]
  entry_read
  pointwise

theorem scale_at (t : Fin cfg0.N) (j : Fin 1024) :
    (iblk m c 2 t (ix3 0 0 j) : EReal) = argA m c (ix2 (bat t) ⟨4096 + j.val, by omega⟩) := by
  blk_simp [iblk, idx t]
  rw [show ((win0_2.blk t).view.emb (ix3 0 0 j)) = ix3 (bat t) 0 ⟨4096 + j.val, by omega⟩ by blk_ext [idx t]]
  entry_read
  pointwise

theorem gate_at (t : Fin cfg0.N) (j : Fin 1024) :
    (iblk m c 3 t (ix3 0 0 j) : EReal) = argA m c (ix2 (bat t) ⟨5120 + j.val, by omega⟩) := by
  blk_simp [iblk, idx t]
  rw [show ((win0_3.blk t).view.emb (ix3 0 0 j)) = ix3 (bat t) 0 ⟨5120 + j.val, by omega⟩ by blk_ext [idx t]]
  entry_read
  pointwise

theorem pre_at (t : Fin cfg0.N) (j : Fin 1024) : (iblk m c 4 t (ix2 0 j) : EReal) = argG m c (ix1 j) := by
  blk_simp [iblk, idx t]
  rw [show ((win0_4.blk t).view.emb (ix2 0 j)) = ix2 0 j by blk_ext [idx t]]
  entry_read
  pointwise

theorem post_at (t : Fin cfg0.N) (j : Fin 1024) : (iblk m c 5 t (ix2 0 j) : EReal) = argG' m c (ix1 j) := by
  blk_simp [iblk, idx t]
  rw [show ((win0_5.blk t).view.emb (ix2 0 j)) = ix2 0 j by blk_ext [idx t]]
  entry_read
  pointwise

theorem up_at (t : Fin cfg0.N) (k : Fin 1024) (f : Fin 4096) : (iblk m c 6 t (ix2 k f) : EReal) = argU m c (ix2 k f) := by
  blk_simp [iblk, idx t]
  rw [show ((win0_6.blk t).view.emb (ix2 k f)) = ix2 k f by blk_ext [idx t]]
  entry_read
  pointwise

theorem down_at (t : Fin cfg0.N) (k : Fin 4096) (f : Fin 1024) : (iblk m c 7 t (ix2 k f) : EReal) = argD m c (ix2 k f) := by
  blk_simp [iblk, idx t]
  rw [show ((win0_7.blk t).view.emb (ix2 k f)) = ix2 k f by blk_ext [idx t]]
  entry_read
  pointwise

/-- What the call stores is the reference's mixer of the same arguments. -/
theorem final : (dats m 0 c).arrAt 8 cfg0.N
    = (Cert.MlpReferenceIdeal.Ref.mixer (argX m c) (argA m c) (argG m c) (argG' m c) (argU m c) (argD m c) : FVec Ideal S4x8192x1024 .f32) := by
  refine (dats m 0 c).arrAt_eq_of_covers 8 _ (by decide +kernel) fun t _ y => ?_
  blk_simp
  rw [after0_8]
  idx_vars y
  obtain rfl : y0 = 0 := Subsingleton.elim _ _
  have e : ((View.whole main_v5).slice (win0_8.rect t)).emb (ix3 0 y1 y2) = ix3 (bat t) (pos t y1) y2 := by blk_ext [idx t]
  rw [e]
  refine (out_apply _ _ _ _ _ _ _ _ y1 y2).trans ?_
  simp only [x_at, shift_at, scale_at, gate_at, pre_at, post_at, up_at, down_at]
  exact (Cert.MlpReferenceIdeal.Ref.mixer_apply _ _ _ _ _ _ _ _ _).symm

end Cert.MlpIdeal.Value

end
-- ==== Proof.MlpClaims.lean ====
/- The claims of the channel mixer. -/
module

public import proofs.«01_k».proof.Defs
public import proofs.«01_k».proof.Proof.Gen.Mlp
public import proofs.«01_k».proof.Proof.Mlp
public import Idealize.ShloMosaic.PureOps.BitExact
public import Idealize.ShloMosaic.Lib.Claim

@[expose] public section

noncomputable section

namespace Cert.Proof

open Idealize.ShloMosaic Idealize.SL.Sem

theorem mlp_bodies : Cert.Mlp.defs₀ (F := Bits) = Cert.MlpIdeal.defs₀ (F := Bits) := by
  funext p
  match p with
  | .tc =>
    funext l a
    match l, a with
    | 0, (t, s) => rfl
    | ⟨_ + 1, h⟩, _ => exact absurd h (Nat.not_lt.2 (Nat.le_add_left _ _))
  | .scScalar _ => rfl
  | .scVector _ _ => rfl

theorem mlp_defs : Cert.Mlp.defs (F := Bits) = Cert.MlpIdeal.defs (F := Bits) :=
  congrArg (fun D => Pipeline.defs (Cert.MlpIdeal.pcfgs (F := Bits)) D) mlp_bodies

theorem mlp_frame : Cert.quiescent_Mlp := by
  intro m ρ _
  have h := Cert.MlpIdeal.Gen.frame (F := Bits) m ρ
  rw [← mlp_defs] at h
  exact h

theorem mlp_frame_ideal : Cert.quiescent_MlpIdeal := fun m ρ _ => Cert.MlpIdeal.Gen.frame (F := Ideal) m ρ

set_option maxHeartbeats 1600000 in
theorem mlp_frame_reference : Cert.quiescent_MlpReferenceIdeal := by
  intro m g _
  hlo_run
  · exact fun _ => by and_intros <;> trivial
  exact sem_eq_zero_of_no_sems (by decide : Cert.MlpReferenceIdeal.sig.nSem + Cert.MlpReferenceIdeal.sig.nDmaSem = 0) _

set_option maxHeartbeats 1600000 in
theorem mlp_values : Cert.algebraic_MlpIdeal_MlpReferenceIdeal := by
  pair_intro
  · run_from (Cert.MlpIdeal.Value.run_blocks) m g
  · run_from (Cert.MlpReferenceIdeal.Value.run) m' g'
    obtain ⟨h0, h1, h2, h3, h4, h5⟩ := hagree c
    exact (Cert.MlpReferenceIdeal.Ref.result_of m' c _ _ _ _ _ _ h0 h1 h2 h3 h4 h5).trans (Cert.MlpIdeal.Value.final m c).symm

end Cert.Proof

end
-- ==== Proof.Merge.lean ====
/- The merge of the three mixers' branches: the block that a grid point stores and the reference, read at an index, are
   one expression of the arguments. -/
module

public import proofs.«01_k».proof.Proof.Gen.MergeIdeal.Value
public import proofs.«01_k».proof.Proof.Gen.MergeReferenceIdeal.Run
public import proofs.«01_k».proof.Proof.Mixer
public import Idealize.ShloMosaic.Lib.StableHlo.RunRead

@[expose] public section

set_option maxRecDepth 16384

noncomputable section

open Idealize.ShloMosaic Idealize.ShloMosaic.TcCoe Idealize.ShloMosaic.Tactic

namespace Cert.Mixer

/-- The logistic function. -/
def sigm (z : EReal) : EReal := Ideal.div 1 (1 + Ideal.exp (-z))

/-- A branch's row through its weights, under the gate of the row. -/
def gated (h : Fin 1024 → EReal) (wg : Fin 1024 → Fin 1024 → EReal) (y : Fin 512 → EReal) (w : Fin 512 → Fin 1024 → EReal)
    (j : Fin 1024) : EReal := sigm (∑ k, h k * wg k j) * ∑ e, y e * w e j

/-- The last product. -/
def through (u : Fin 1024 → EReal) (w : Fin 1024 → Fin 1024 → EReal) (j : Fin 1024) : EReal := ∑ k, u k * w k j

end Cert.Mixer

namespace Cert.MergeReferenceIdeal.Ref

open Cert.MergeReferenceIdeal Cert.MergeReferenceIdeal.Gen Cert.MergeReferenceIdeal.Value Cert.Mixer
open Cert.MlpReferenceIdeal.Ref (normed conditioned conditioned_apply residual residual_apply cond cond_apply)

/-- The gates of the three branches. -/
def gates (h : FVec Ideal S4x8192x1024 .f32) (w : FVec Ideal S1024x7704 .f32) : FVec Ideal S4x8192x3072 .f32 :=
  Host.divf (broadcastInDim S4x8192x3072 ![] bcast_S_S4x8192x3072 (constant S_ .f32 0x3F800000#32))
    (addf (broadcastInDim S4x8192x3072 ![] bcast_S_S4x8192x3072 (constant S_ .f32 0x3F800000#32))
      (Host.exp (Host.negf (extractStridedSlice S4x8192x3072 ![0, 0, 4632]
        (Host.dotGeneral dot_S4x8192x1024_S1024x7704_S4x8192x7704_2_0_01_1_n_n none h w) slices_S4x8192x7704_S4x8192x3072_0_0_4632))))

theorem gates_apply (h : FVec Ideal S4x8192x1024 .f32) (w : FVec Ideal S1024x7704 .f32) (b : Fin 4) (s : Fin 8192) (j : Fin 3072) :
    (gates h w (ix3 b s j) : EReal) = sigm (∑ k, h (ix3 b s k) * w (ix2 k ⟨4632 + j.val, by omega⟩)) := by
  pointwise [gates]
  rfl

/-- One branch: its third of the gates times its product. -/
def branch (g : FVec Ideal S4x8192x3072 .f32) (o : ℕ) (ho : S4x8192x3072.Slices ![0, 0, o] S4x8192x1024)
    (y : FVec Ideal S4x8192x512 .f32) (w : FVec Ideal S512x1024 .f32) : FVec Ideal S4x8192x1024 .f32 :=
  mulf (extractStridedSlice S4x8192x1024 ![0, 0, o] g ho) (Host.dotGeneral dot_S4x8192x512_S512x1024_S4x8192x1024_2_0_01_1_n_n none y w)

theorem branch_apply (h : FVec Ideal S4x8192x1024 .f32) (wi : FVec Ideal S1024x7704 .f32) (o : ℕ)
    (ho : S4x8192x3072.Slices ![0, 0, o] S4x8192x1024) (ho' : o ≤ 2048)
    (y : FVec Ideal S4x8192x512 .f32) (w : FVec Ideal S512x1024 .f32) (b : Fin 4) (s : Fin 8192) (j : Fin 1024) :
    (branch (gates h wi) o ho y w (ix3 b s j) : EReal) = gated (fun k => h (ix3 b s k)) (fun k j => wi (ix2 k ⟨4632 + (o + j.val), by omega⟩))
      (fun e => y (ix3 b s e)) (fun e j => w (ix2 e j)) j := by
  pointwise [branch]
  rw [gates_apply]
  rfl

def outed (u : FVec Ideal S4x8192x1024 .f32) (w : FVec Ideal S1024x1024 .f32) : FVec Ideal S4x8192x1024 .f32 :=
  Host.dotGeneral dot_S4x8192x1024_S1024x1024_S4x8192x1024_2_0_01_1_n_n none u w

theorem outed_apply (u : FVec Ideal S4x8192x1024 .f32) (w : FVec Ideal S1024x1024 .f32) (b : Fin 4) (s : Fin 8192) (j : Fin 1024) :
    (outed u w (ix3 b s j) : EReal) = through (fun k => u (ix3 b s k)) (fun k j => w (ix2 k j)) j := by
  pointwise [outed]
  rfl

/-- The whole merge, as the reference composes it. -/
def merge (x : FVec Ideal S4x8192x1024 .f32) (a : FVec Ideal S4x6144 .f32) (g g' : FVec Ideal S1024 .f32)
    (ym ys yf : FVec Ideal S4x8192x512 .f32) (wi : FVec Ideal S1024x7704 .f32) (wm ws wf : FVec Ideal S512x1024 .f32)
    (wo : FVec Ideal S1024x1024 .f32) : FVec Ideal S4x8192x1024 .f32 :=
  residual x (outed (addf (addf
    (branch (gates (conditioned x g (cond a 1024 slices_S4x1x6144_S4x1x1024_0_0_1024) (cond a 0 slices_S4x1x6144_S4x1x1024_0_0_0)) wi) 0 slices_S4x8192x3072_S4x8192x1024_0_0_0 ym wm)
    (branch (gates (conditioned x g (cond a 1024 slices_S4x1x6144_S4x1x1024_0_0_1024) (cond a 0 slices_S4x1x6144_S4x1x1024_0_0_0)) wi) 1024 slices_S4x8192x3072_S4x8192x1024_0_0_1024 ys ws))
    (branch (gates (conditioned x g (cond a 1024 slices_S4x1x6144_S4x1x1024_0_0_1024) (cond a 0 slices_S4x1x6144_S4x1x1024_0_0_0)) wi) 2048 slices_S4x8192x3072_S4x8192x1024_0_0_2048 yf wf)) wo)
    g' (cond a 2048 slices_S4x1x6144_S4x1x1024_0_0_2048)

theorem add3_apply (p q r : FVec Ideal S4x8192x1024 .f32) (b : Fin 4) (s : Fin 8192) (j : Fin 1024) :
    (addf (addf p q) r (ix3 b s j) : EReal) = p (ix3 b s j) + q (ix3 b s j) + r (ix3 b s j) := rfl

theorem hid_apply (x : FVec Ideal S4x8192x1024 .f32) (a : FVec Ideal S4x6144 .f32) (g : FVec Ideal S1024 .f32) (o o' : ℕ)
    (h : S4x1x6144.Slices ![0, 0, o] S4x1x1024) (h' : S4x1x6144.Slices ![0, 0, o'] S4x1x1024) (ho : o ≤ 5120) (ho' : o' ≤ 5120)
    (b : Fin 4) (s : Fin 8192) :
    (fun k => (conditioned x g (cond a o h) (cond a o' h') (ix3 b s k) : EReal))
      = hidden (fun k => x (ix3 b s k)) (fun j => g (ix1 j)) (fun j => a (ix2 b ⟨o + j.val, by omega⟩)) (fun j => a (ix2 b ⟨o' + j.val, by omega⟩)) := by
  funext e
  rw [conditioned_apply]
  congr 1 <;> funext e
  · exact cond_apply _ _ _ ho _ _
  · exact cond_apply _ _ _ ho' _ _

/-- The merged row. -/
def mergedRow (h : Fin 1024 → EReal) (wi : Fin 1024 → Fin 7704 → EReal) (ym ys yf : Fin 512 → EReal)
    (wm ws wf : Fin 512 → Fin 1024 → EReal) (k : Fin 1024) : EReal :=
  gated h (fun k j => wi k ⟨4632 + (0 + j.val), by omega⟩) ym wm k + gated h (fun k j => wi k ⟨4632 + (1024 + j.val), by omega⟩) ys ws k
    + gated h (fun k j => wi k ⟨4632 + (2048 + j.val), by omega⟩) yf wf k

theorem merge_apply (x : FVec Ideal S4x8192x1024 .f32) (a : FVec Ideal S4x6144 .f32) (g g' : FVec Ideal S1024 .f32)
    (ym ys yf : FVec Ideal S4x8192x512 .f32) (wi : FVec Ideal S1024x7704 .f32) (wm ws wf : FVec Ideal S512x1024 .f32)
    (wo : FVec Ideal S1024x1024 .f32) (b : Fin 4) (s : Fin 8192) (j : Fin 1024) :
    (merge x a g g' ym ys yf wi wm ws wf wo (ix3 b s j) : EReal)
      = x (ix3 b s j) + a (ix2 b ⟨2048 + j.val, by omega⟩) * norm (through (mergedRow (hidden (fun k => x (ix3 b s k)) (fun j => g (ix1 j))
          (fun j => a (ix2 b ⟨1024 + j.val, by omega⟩)) (fun j => a (ix2 b ⟨0 + j.val, by omega⟩)))
          (fun k f => wi (ix2 k f)) (fun e => ym (ix3 b s e)) (fun e => ys (ix3 b s e)) (fun e => yf (ix3 b s e))
          (fun e j => wm (ix2 e j)) (fun e j => ws (ix2 e j)) (fun e j => wf (ix2 e j))) (fun k j => wo (ix2 k j))) (g' (ix1 j)) j := by
  rw [merge, residual_apply, cond_apply _ _ _ (by decide)]
  refine congrArg₂ HAdd.hAdd (Eq.refl _) (congrArg₂ HMul.hMul (Eq.refl _) (congrArg (norm · _ j) (funext fun k => ?_)))
  rw [outed_apply]
  refine congrArg (through · _ k) (funext fun f => ?_)
  rw [add3_apply, branch_apply _ _ _ _ (by decide), branch_apply _ _ _ _ (by decide), branch_apply _ _ _ _ (by decide),
    hid_apply _ _ _ _ _ _ _ (by decide) (by decide)]
  rfl

/-- The reference's result, of arguments that its memory holds. -/
theorem result_of (m : (ℓ : Loc nD τ sig) → Buf (Elt Ideal) ℓ) (c : Dev nD)
    (x : FVec Ideal S4x8192x1024 .f32)
    (a : FVec Ideal S4x6144 .f32)
    (g : FVec Ideal S1024 .f32)
    (g' : FVec Ideal S1024 .f32)
    (ym : FVec Ideal S4x8192x512 .f32)
    (ys : FVec Ideal S4x8192x512 .f32)
    (yf : FVec Ideal S4x8192x512 .f32)
    (wi : FVec Ideal S1024x7704 .f32)
    (wm : FVec Ideal S512x1024 .f32)
    (ws : FVec Ideal S512x1024 .f32)
    (wf : FVec Ideal S512x1024 .f32)
    (wo : FVec Ideal S1024x1024 .f32)
    (h0 : m ((c.tc : Thread nD τ).loc main_arg0) = x)
    (h1 : m ((c.tc : Thread nD τ).loc main_arg1) = a)
    (h2 : m ((c.tc : Thread nD τ).loc main_arg2) = g)
    (h3 : m ((c.tc : Thread nD τ).loc main_arg3) = g')
    (h4 : m ((c.tc : Thread nD τ).loc main_arg4) = ym)
    (h5 : m ((c.tc : Thread nD τ).loc main_arg5) = ys)
    (h6 : m ((c.tc : Thread nD τ).loc main_arg6) = yf)
    (h7 : m ((c.tc : Thread nD τ).loc main_arg7) = wi)
    (h8 : m ((c.tc : Thread nD τ).loc main_arg8) = wm)
    (h9 : m ((c.tc : Thread nD τ).loc main_arg9) = ws)
    (h10 : m ((c.tc : Thread nD τ).loc main_arg10) = wf)
    (h11 : m ((c.tc : Thread nD τ).loc main_arg11) = wo) :
    res_out0 m c = merge x a g g' ym ys yf wi wm ws wf wo := by
  rw [← h0, ← h1, ← h2, ← h3, ← h4, ← h5, ← h6, ← h7, ← h8, ← h9, ← h10, ← h11]
  rfl

end Cert.MergeReferenceIdeal.Ref

namespace Cert.MergeIdeal.Value

open Cert.MergeIdeal Cert.MergeIdeal.Gen Cert.Mixer

theorem hidden_apply (x0 : Vec Ideal S1x256x1024 .f32) (x4 : Vec Ideal S1x1024 .f32) (x2 x1 : Vec Ideal S1x1x1024 .f32)
    (r : Fin 256) (j : Fin 1024) :
    (k0_pay2 x0 x4 x2 x1 (ix2 r j) : EReal)
      = hidden (fun j => x0 (ix3 0 r j)) (fun j => x4 (ix2 0 j)) (fun j => x2 (ix3 0 0 j)) (fun j => x1 (ix3 0 0 j)) j := by
  pointwise [k0_pay2]
  rfl

theorem first_apply (x0 : Vec Ideal S1x256x1024 .f32) (x4 : Vec Ideal S1x1024 .f32) (x2 x1 : Vec Ideal S1x1x1024 .f32)
    (w : Vec Ideal S1024x1024 .bf16) (r : Fin 256) (j : Fin 1024) :
    (k0_pay3 x0 x4 x2 x1 w (ix2 r j) : EReal)
      = 1 + Ideal.exp (-(∑ k, k0_pay2 x0 x4 x2 x1 (ix2 r k) * w (ix2 k j))) := by
  pointwise [k0_pay3]
  rw [zero_sub]

theorem two_apply (h : FVec Ideal S256x1024 .bf16) (z : FVec Ideal S256x1024 .f32) (y : Vec Ideal S256x512 .bf16)
    (w : Vec Ideal S512x1024 .bf16) (wg : Vec Ideal S1024x1024 .bf16) (y' : Vec Ideal S256x512 .bf16)
    (w' : Vec Ideal S512x1024 .bf16) (r : Fin 256) (j : Fin 1024) :
    (k0_pay5 h z k0_pay4 y w wg y' w' (ix2 r j) : EReal)
      = Ideal.div 1 (z (ix2 r j)) * (∑ e, y (ix2 r e) * w (ix2 e j))
        + gated (fun k => h (ix2 r k)) (fun k j => wg (ix2 k j)) (fun e => y' (ix2 r e)) (fun e j => w' (ix2 e j)) j := by
  pointwise [k0_pay5, k0_pay4]
  rw [zero_sub]
  rfl

theorem third_apply (h : FVec Ideal S256x1024 .bf16) (wg : Vec Ideal S1024x1024 .bf16) (r : Fin 256) (j : Fin 1024) :
    (k0_pay6 h wg (ix2 r j) : EReal) = sigm (∑ k, h (ix2 r k) * wg (ix2 k j)) := by
  pointwise [k0_pay6]
  rw [zero_sub]
  rfl

theorem stored_apply (x0 : Vec Ideal S1x256x1024 .f32) (u g : FVec Ideal S256x1024 .f32) (y : Vec Ideal S256x512 .bf16)
    (w : Vec Ideal S512x1024 .bf16) (wo : Vec Ideal S1024x1024 .bf16)
    (x3 : Vec Ideal S1x1x1024 .f32) (x5 : Vec Ideal S1x1024 .f32) (r : Fin 256) (j : Fin 1024) :
    (k0_pay1 x0 u g (k0_pay7 y) w wo x3 x5 (ix3 0 r j) : EReal)
      = x0 (ix3 0 r j) + x3 (ix3 0 0 j) * norm (through (fun k => u (ix2 r k) + g (ix2 r k) * ∑ e, y (ix2 r e) * w (ix2 e k))
          (fun k j => wo (ix2 k j))) (x5 (ix2 0 j)) j := by
  pointwise [k0_pay1, k0_pay7]
  rfl

theorem out_apply (x0 : Vec Ideal S1x256x1024 .f32) (x1 x2 x3 : Vec Ideal S1x1x1024 .f32) (x4 x5 : Vec Ideal S1x1024 .f32)
    (x6 x7 x8 : Vec Ideal S256x512 .bf16) (x9 : Vec Ideal S1024x3072 .bf16) (x10 x11 x12 : Vec Ideal S512x1024 .bf16)
    (x13 : Vec Ideal S1024x1024 .bf16) (r : Fin 256) (j : Fin 1024) :
    (out0_14 x0 x1 x2 x3 x4 x5 x6 x7 x8 x9 x10 x11 x12 x13 (ix3 0 r j) : EReal)
      = x0 (ix3 0 r j) + x3 (ix3 0 0 j) * norm (through (fun k =>
          gated (hidden (fun j => x0 (ix3 0 r j)) (fun j => x4 (ix2 0 j)) (fun j => x2 (ix3 0 0 j)) (fun j => x1 (ix3 0 0 j)))
            (fun k j => x9 (ix2 k ⟨0 + j.val, by omega⟩)) (fun e => x6 (ix2 r e)) (fun e j => x10 (ix2 e j)) k
          + gated (hidden (fun j => x0 (ix3 0 r j)) (fun j => x4 (ix2 0 j)) (fun j => x2 (ix3 0 0 j)) (fun j => x1 (ix3 0 0 j)))
            (fun k j => x9 (ix2 k ⟨1024 + j.val, by omega⟩)) (fun e => x7 (ix2 r e)) (fun e j => x11 (ix2 e j)) k
          + gated (hidden (fun j => x0 (ix3 0 r j)) (fun j => x4 (ix2 0 j)) (fun j => x2 (ix3 0 0 j)) (fun j => x1 (ix3 0 0 j)))
            (fun k j => x9 (ix2 k ⟨2048 + j.val, by omega⟩)) (fun e => x8 (ix2 r e)) (fun e j => x12 (ix2 e j)) k)
          (fun k j => x13 (ix2 k j))) (x5 (ix2 0 j)) j := by
  unfold_out out0_14
  canon_tiles z h using (cover0_14 (F := Ideal) _ _)
  idx_vars z
  obtain rfl := Fin.ext h1
  obtain rfl := Fin.ext h2
  obtain rfl : z0 = 0 := Subsingleton.elim _ _
  rw [stored_apply]
  simp only [two_apply, first_apply, third_apply, hidden_apply]
  pointwise
  rfl

variable (m : (ℓ : Loc nD τ sig) → Buf (Elt Ideal) ℓ) (c : Dev nD)

theorem points : cfg0.N = 128 := by decide

theorem idx : ∀ t : Fin cfg0.N,
    win0_0.index t = ![t.val / 32, t.val % 32, 0] ∧ win0_1.index t = ![t.val / 32, 0, 0] ∧ win0_2.index t = ![t.val / 32, 0, 1]
      ∧ win0_3.index t = ![t.val / 32, 0, 2] ∧ win0_4.index t = ![0, 0] ∧ win0_5.index t = ![0, 0] ∧ win0_6.index t = ![t.val, 0]
      ∧ win0_7.index t = ![t.val, 0] ∧ win0_8.index t = ![t.val, 0] ∧ win0_9.index t = ![0, 0] ∧ win0_10.index t = ![0, 0]
      ∧ win0_11.index t = ![0, 0] ∧ win0_12.index t = ![0, 0] ∧ win0_13.index t = ![0, 0]
      ∧ win0_14.index t = ![t.val / 32, t.val % 32, 0] :=
  (by decide +kernel : ∀ t : Fin grid0.N, _)

abbrev bat (t : Fin cfg0.N) : Fin 4 := ⟨t.val / 32, by have := points; omega⟩

abbrev pos (t : Fin cfg0.N) (r : Fin 256) : Fin 8192 := ⟨256 * (t.val % 32) + r.val, by omega⟩

/-- The arguments, at their shapes. -/
abbrev argX : FVec Ideal S4x8192x1024 .f32 := m ((c : Thread nD τ).loc main_arg0)
abbrev argA : FVec Ideal S4x6144 .f32 := m ((c : Thread nD τ).loc main_arg1)
abbrev argG : FVec Ideal S1024 .f32 := m ((c : Thread nD τ).loc main_arg2)
abbrev argG' : FVec Ideal S1024 .f32 := m ((c : Thread nD τ).loc main_arg3)
abbrev argYm : FVec Ideal S4x8192x512 .f32 := m ((c : Thread nD τ).loc main_arg4)
abbrev argYs : FVec Ideal S4x8192x512 .f32 := m ((c : Thread nD τ).loc main_arg5)
abbrev argYf : FVec Ideal S4x8192x512 .f32 := m ((c : Thread nD τ).loc main_arg6)
abbrev argWi : FVec Ideal S1024x7704 .f32 := m ((c : Thread nD τ).loc main_arg7)
abbrev argWm : FVec Ideal S512x1024 .f32 := m ((c : Thread nD τ).loc main_arg8)
abbrev argWs : FVec Ideal S512x1024 .f32 := m ((c : Thread nD τ).loc main_arg9)
abbrev argWf : FVec Ideal S512x1024 .f32 := m ((c : Thread nD τ).loc main_arg10)
abbrev argWo : FVec Ideal S1024x1024 .f32 := m ((c : Thread nD τ).loc main_arg11)

theorem x_at (t : Fin cfg0.N) (r : Fin 256) (j : Fin 1024) :
    (iblk m c 0 t (ix3 0 r j) : EReal) = argX m c (ix3 (bat t) (pos t r) j) := by
  blk_simp [iblk, idx t]
  rw [show ((win0_0.blk t).view.emb (ix3 0 r j)) = ix3 (bat t) (pos t r) j by blk_ext [idx t]]
  rfl

theorem shift_at (t : Fin cfg0.N) (j : Fin 1024) :
    (iblk m c 1 t (ix3 0 0 j) : EReal) = argA m c (ix2 (bat t) ⟨0 + j.val, by omega⟩) := by
  blk_simp [iblk, idx t]
  rw [show ((win0_1.blk t).view.emb (ix3 0 0 j)) = ix3 (bat t) 0 ⟨0 + j.val, by omega⟩ by blk_ext [idx t]]
  entry_read
  pointwise

theorem scale_at (t : Fin cfg0.N) (j : Fin 1024) :
    (iblk m c 2 t (ix3 0 0 j) : EReal) = argA m c (ix2 (bat t) ⟨1024 + j.val, by omega⟩) := by
  blk_simp [iblk, idx t]
  rw [show ((win0_2.blk t).view.emb (ix3 0 0 j)) = ix3 (bat t) 0 ⟨1024 + j.val, by omega⟩ by blk_ext [idx t]]
  entry_read
  pointwise

theorem gate_at (t : Fin cfg0.N) (j : Fin 1024) :
    (iblk m c 3 t (ix3 0 0 j) : EReal) = argA m c (ix2 (bat t) ⟨2048 + j.val, by omega⟩) := by
  blk_simp [iblk, idx t]
  rw [show ((win0_3.blk t).view.emb (ix3 0 0 j)) = ix3 (bat t) 0 ⟨2048 + j.val, by omega⟩ by blk_ext [idx t]]
  entry_read
  pointwise

theorem pre_at (t : Fin cfg0.N) (j : Fin 1024) : (iblk m c 4 t (ix2 0 j) : EReal) = argG m c (ix1 j) := by
  blk_simp [iblk, idx t]
  rw [show ((win0_4.blk t).view.emb (ix2 0 j)) = ix2 0 j by blk_ext [idx t]]
  entry_read
  pointwise

theorem post_at (t : Fin cfg0.N) (j : Fin 1024) : (iblk m c 5 t (ix2 0 j) : EReal) = argG' m c (ix1 j) := by
  blk_simp [iblk, idx t]
  rw [show ((win0_5.blk t).view.emb (ix2 0 j)) = ix2 0 j by blk_ext [idx t]]
  entry_read
  pointwise

theorem ym_at (t : Fin cfg0.N) (r : Fin 256) (e : Fin 512) :
    (iblk m c 6 t (ix2 r e) : EReal) = argYm m c (ix3 (bat t) (pos t r) e) := by
  have hN := points
  blk_simp [iblk, idx t]
  rw [show ((win0_6.blk t).view.emb (ix2 r e)) = ix2 (⟨256 * t.val + r.val, by omega⟩ : Fin 32768) e by blk_ext [idx t]]
  entry_read
  pointwise
  exact congrArg₂ (fun u v => argYm m c (ix3 u v e)) (Fin.ext (by show (256 * t.val + r.val) / 8192 = t.val / 32; omega))
    (Fin.ext (by show (256 * t.val + r.val) % 8192 = 256 * (t.val % 32) + r.val; omega))

theorem ys_at (t : Fin cfg0.N) (r : Fin 256) (e : Fin 512) :
    (iblk m c 7 t (ix2 r e) : EReal) = argYs m c (ix3 (bat t) (pos t r) e) := by
  have hN := points
  blk_simp [iblk, idx t]
  rw [show ((win0_7.blk t).view.emb (ix2 r e)) = ix2 (⟨256 * t.val + r.val, by omega⟩ : Fin 32768) e by blk_ext [idx t]]
  entry_read
  pointwise
  exact congrArg₂ (fun u v => argYs m c (ix3 u v e)) (Fin.ext (by show (256 * t.val + r.val) / 8192 = t.val / 32; omega))
    (Fin.ext (by show (256 * t.val + r.val) % 8192 = 256 * (t.val % 32) + r.val; omega))

theorem yf_at (t : Fin cfg0.N) (r : Fin 256) (e : Fin 512) :
    (iblk m c 8 t (ix2 r e) : EReal) = argYf m c (ix3 (bat t) (pos t r) e) := by
  have hN := points
  blk_simp [iblk, idx t]
  rw [show ((win0_8.blk t).view.emb (ix2 r e)) = ix2 (⟨256 * t.val + r.val, by omega⟩ : Fin 32768) e by blk_ext [idx t]]
  entry_read
  pointwise
  exact congrArg₂ (fun u v => argYf m c (ix3 u v e)) (Fin.ext (by show (256 * t.val + r.val) / 8192 = t.val / 32; omega))
    (Fin.ext (by show (256 * t.val + r.val) % 8192 = 256 * (t.val % 32) + r.val; omega))

theorem wm_at (t : Fin cfg0.N) (k : Fin 512) (f : Fin 1024) : (iblk m c 10 t (ix2 k f) : EReal) = argWm m c (ix2 k f) := by
  blk_simp [iblk, idx t]
  rw [show ((win0_10.blk t).view.emb (ix2 k f)) = ix2 k f by blk_ext [idx t]]
  entry_read
  pointwise

theorem ws_at (t : Fin cfg0.N) (k : Fin 512) (f : Fin 1024) : (iblk m c 11 t (ix2 k f) : EReal) = argWs m c (ix2 k f) := by
  blk_simp [iblk, idx t]
  rw [show ((win0_11.blk t).view.emb (ix2 k f)) = ix2 k f by blk_ext [idx t]]
  entry_read
  pointwise

theorem wf_at (t : Fin cfg0.N) (k : Fin 512) (f : Fin 1024) : (iblk m c 12 t (ix2 k f) : EReal) = argWf m c (ix2 k f) := by
  blk_simp [iblk, idx t]
  rw [show ((win0_12.blk t).view.emb (ix2 k f)) = ix2 k f by blk_ext [idx t]]
  entry_read
  pointwise

theorem wo_at (t : Fin cfg0.N) (k : Fin 1024) (f : Fin 1024) : (iblk m c 13 t (ix2 k f) : EReal) = argWo m c (ix2 k f) := by
  blk_simp [iblk, idx t]
  rw [show ((win0_13.blk t).view.emb (ix2 k f)) = ix2 k f by blk_ext [idx t]]
  entry_read
  pointwise

theorem wi_at (t : Fin cfg0.N) (k : Fin 1024) (f : Fin 3072) :
    (iblk m c 9 t (ix2 k f) : EReal) = argWi m c (ix2 k ⟨4632 + f.val, by omega⟩) := by
  blk_simp [iblk, idx t]
  rw [show ((win0_9.blk t).view.emb (ix2 k f)) = ix2 k f by blk_ext [idx t]]
  entry_read
  pointwise

/-- What the call stores is the reference's merge of the same arguments. -/
theorem final : (dats m 0 c).arrAt 14 cfg0.N
    = (Cert.MergeReferenceIdeal.Ref.merge (argX m c) (argA m c) (argG m c) (argG' m c) (argYm m c) (argYs m c) (argYf m c)
        (argWi m c) (argWm m c) (argWs m c) (argWf m c) (argWo m c) : FVec Ideal S4x8192x1024 .f32) := by
  refine (dats m 0 c).arrAt_eq_of_covers 14 _ (by decide +kernel) fun t _ y => ?_
  blk_simp
  rw [after0_14]
  idx_vars y
  obtain rfl : y0 = 0 := Subsingleton.elim _ _
  have e : ((View.whole main_v35).slice (win0_14.rect t)).emb (ix3 0 y1 y2) = ix3 (bat t) (pos t y1) y2 := by blk_ext [idx t]
  rw [e]
  refine (out_apply _ _ _ _ _ _ _ _ _ _ _ _ _ _ y1 y2).trans ?_
  simp only [x_at, shift_at, scale_at, gate_at, pre_at, post_at, ym_at, ys_at, yf_at, wi_at, wm_at, ws_at, wf_at, wo_at]
  exact (Cert.MergeReferenceIdeal.Ref.merge_apply _ _ _ _ _ _ _ _ _ _ _ _ _ _ _).symm

end Cert.MergeIdeal.Value

end
-- ==== Proof.MergeClaims.lean ====
/- The claims of the merge of the branches. -/
module

public import proofs.«01_k».proof.Defs
public import proofs.«01_k».proof.Proof.Gen.Merge
public import proofs.«01_k».proof.Proof.Merge
public import Idealize.ShloMosaic.PureOps.BitExact
public import Idealize.ShloMosaic.Lib.Claim

@[expose] public section

noncomputable section

namespace Cert.Proof

open Idealize.ShloMosaic Idealize.SL.Sem

set_option maxHeartbeats 4000000 in
theorem merge_bodies : Cert.Merge.defs₀ (F := Bits) = Cert.MergeIdeal.defs₀ (F := Bits) := by
  funext p
  match p with
  | .tc =>
    funext l a
    match l, a with
    | 0, (t, s) => rfl
    | ⟨_ + 1, h⟩, _ => exact absurd h (Nat.not_lt.2 (Nat.le_add_left _ _))
  | .scScalar _ => rfl
  | .scVector _ _ => rfl

theorem merge_defs : Cert.Merge.defs (F := Bits) = Cert.MergeIdeal.defs (F := Bits) :=
  congrArg (fun D => Pipeline.defs (Cert.MergeIdeal.pcfgs (F := Bits)) D) merge_bodies

set_option maxHeartbeats 4000000 in
theorem merge_frame : Cert.quiescent_Merge := by
  intro m ρ _
  have h := Cert.MergeIdeal.Gen.frame (F := Bits) m ρ
  rw [← merge_defs] at h
  exact h

theorem merge_frame_ideal : Cert.quiescent_MergeIdeal := fun m ρ _ => Cert.MergeIdeal.Gen.frame (F := Ideal) m ρ

set_option maxHeartbeats 1600000 in
theorem merge_frame_reference : Cert.quiescent_MergeReferenceIdeal := by
  intro m g _
  hlo_run
  · exact fun _ => by and_intros <;> trivial
  exact sem_eq_zero_of_no_sems (by decide : Cert.MergeReferenceIdeal.sig.nSem + Cert.MergeReferenceIdeal.sig.nDmaSem = 0) _

set_option maxHeartbeats 1600000 in
theorem merge_values : Cert.algebraic_MergeIdeal_MergeReferenceIdeal := by
  pair_intro
  · run_from (Cert.MergeIdeal.Value.run_blocks) m g
  · run_from (Cert.MergeReferenceIdeal.Value.run) m' g'
    obtain ⟨h0, h1, h2, h3, h4, h5, h6, h7, h8, h9, h10, h11⟩ := hagree c
    exact (Cert.MergeReferenceIdeal.Ref.result_of m' c _ _ _ _ _ _ _ _ _ _ _ _ h0 h1 h2 h3 h4 h5 h6 h7 h8 h9 h10 h11).trans (Cert.MergeIdeal.Value.final m c).symm

end Cert.Proof

end
-- ==== Proof.Inproj.lean ====
/- The in-projection: the reference's results, read at an index, as expressions of the arguments. -/
module

public import proofs.«01_k».proof.Proof.Gen.InprojReferenceIdeal.Run
public import proofs.«01_k».proof.Proof.Mixer
public import Idealize.ShloMosaic.Lib.StableHlo.RunRead

@[expose] public section

set_option maxRecDepth 16384

noncomputable section

open Idealize.ShloMosaic Idealize.ShloMosaic.TcCoe Idealize.ShloMosaic.Tactic

namespace Cert.Mixer

/-- A row through one column of weights. -/
def col (h w : Fin 1024 → EReal) : EReal := ∑ k, h k * w k

/-- The narrow pieces in their lanes: each piece's lanes follow those of the piece before it. -/
def lanes (u : Fin 7704 → EReal) (j : Fin 128) : EReal :=
  if h : j.val < 4 then u ⟨1024 + j.val, by omega⟩
  else if h : j.val - 4 < 4 then u ⟨1028 + (j.val - 4), by omega⟩
  else if h : j.val - 4 - 4 < 8 then u ⟨3080 + (j.val - 4 - 4), by omega⟩
  else if h : j.val - 4 - 4 - 8 < 8 then u ⟨4624 + (j.val - 4 - 4 - 8), by omega⟩
  else if h : j.val - 4 - 4 - 8 - 8 < 4 then u ⟨1028 + (j.val - 4 - 4 - 8 - 8), by omega⟩
  else if h : j.val - 4 - 4 - 8 - 8 - 4 < 4 then 0
  else if h : j.val - 4 - 4 - 8 - 8 - 4 - 4 < 8 then u ⟨3080 + (j.val - 4 - 4 - 8 - 8 - 4 - 4), by omega⟩
  else if h : j.val - 4 - 4 - 8 - 8 - 4 - 4 - 8 < 8 then u ⟨4624 + (j.val - 4 - 4 - 8 - 8 - 4 - 4 - 8), by omega⟩
  else 0

theorem col_lanes (h : Fin 1024 → EReal) (w : Fin 1024 → Fin 7704 → EReal) (j : Fin 128) :
    col h (fun k => lanes (w k) j) = lanes (fun q => col h (fun k => w k q)) j := by
  unfold lanes
  split_ifs <;> simp [col]

end Cert.Mixer

namespace Cert.InprojReferenceIdeal.Ref

open Cert.InprojReferenceIdeal Cert.InprojReferenceIdeal.Gen Cert.InprojReferenceIdeal.Value Cert.Mixer
open Cert.MlpReferenceIdeal.Ref (normed conditioned conditioned_apply cond cond_apply)

/-- The whole projection of a hidden row. -/
def proj (x : FVec Ideal S4x8192x1024 .f32) (a : FVec Ideal S4x6144 .f32) (g : FVec Ideal S1024 .f32)
    (w : FVec Ideal S1024x7704 .f32) : FVec Ideal S4x8192x7704 .f32 :=
  Host.dotGeneral dot_S4x8192x1024_S1024x7704_S4x8192x7704_2_0_01_1_n_n none
    (conditioned x g (cond a 1024 slices_S4x1x6144_S4x1x1024_0_0_1024) (cond a 0 slices_S4x1x6144_S4x1x1024_0_0_0)) w

/-- A hidden row. -/
abbrev row (x : FVec Ideal S4x8192x1024 .f32) (a : FVec Ideal S4x6144 .f32) (g : FVec Ideal S1024 .f32) (b : Fin 4) (s : Fin 8192) :
    Fin 1024 → EReal :=
  hidden (fun k => x (ix3 b s k)) (fun j => g (ix1 j)) (fun j => a (ix2 b ⟨1024 + j.val, by omega⟩)) (fun j => a (ix2 b ⟨0 + j.val, by omega⟩))

theorem proj_apply (x : FVec Ideal S4x8192x1024 .f32) (a : FVec Ideal S4x6144 .f32) (g : FVec Ideal S1024 .f32)
    (w : FVec Ideal S1024x7704 .f32) (b : Fin 4) (s : Fin 8192) (q : Fin 7704) :
    (proj x a g w (ix3 b s q) : EReal) = col (row x a g b s) (fun k => w (ix2 k q)) := by
  pointwise [proj]
  refine Finset.sum_congr rfl fun k _ => congrArg₂ HMul.hMul ?_ (Eq.refl _)
  rw [conditioned_apply]
  unfold row
  congr 1 <;> funext e <;> exact cond_apply _ _ _ (by decide) _ _

def mq (x : FVec Ideal S4x8192x1024 .f32) (a : FVec Ideal S4x6144 .f32) (g : FVec Ideal S1024 .f32)
    (w : FVec Ideal S1024x7704 .f32) : FVec Ideal S32768x256 .f32 :=
  shapeCast _ (mulf (extractStridedSlice S4x8192x256 ![0, 0, 0] (proj x a g w) slices_S4x8192x7704_S4x8192x256_0_0_0)
    (broadcastInDim S4x8192x256 ![] bcast_S_S4x8192x256 (constant S_ .f32 0x3E000000#32))) shapeCasts_S4x8192x256_S32768x256

theorem mq_apply (x : FVec Ideal S4x8192x1024 .f32) (a : FVec Ideal S4x6144 .f32) (g : FVec Ideal S1024 .f32)
    (w : FVec Ideal S1024x7704 .f32) (r : Fin 32768) (j : Fin 256) :
    (mq x a g w (ix2 r j) : EReal)
      = col (row x a g ⟨r.val / 8192, by omega⟩ ⟨r.val % 8192, by omega⟩) (fun k => w (ix2 k ⟨0 + j.val, by omega⟩)) * Ideal.ofBits .f32 0x3E000000#32 := by
  unfold mq
  pointwise
  refine congrArg (· * _) ?_
  exact proj_apply x a g w _ _ _

def mk (x : FVec Ideal S4x8192x1024 .f32) (a : FVec Ideal S4x6144 .f32) (g : FVec Ideal S1024 .f32)
    (w : FVec Ideal S1024x7704 .f32) : FVec Ideal S32768x256 .f32 :=
  shapeCast _ (extractStridedSlice S4x8192x256 ![0, 0, 256] (proj x a g w) slices_S4x8192x7704_S4x8192x256_0_0_256) shapeCasts_S4x8192x256_S32768x256

theorem mk_apply (x : FVec Ideal S4x8192x1024 .f32) (a : FVec Ideal S4x6144 .f32) (g : FVec Ideal S1024 .f32)
    (w : FVec Ideal S1024x7704 .f32) (r : Fin 32768) (j : Fin 256) :
    (mk x a g w (ix2 r j) : EReal)
      = col (row x a g ⟨r.val / 8192, by omega⟩ ⟨r.val % 8192, by omega⟩) (fun k => w (ix2 k ⟨256 + j.val, by omega⟩)) := by
  unfold mk
  pointwise

  exact proj_apply x a g w _ _ _

def mv (x : FVec Ideal S4x8192x1024 .f32) (a : FVec Ideal S4x6144 .f32) (g : FVec Ideal S1024 .f32)
    (w : FVec Ideal S1024x7704 .f32) : FVec Ideal S32768x512 .f32 :=
  shapeCast _ (extractStridedSlice S4x8192x512 ![0, 0, 512] (proj x a g w) slices_S4x8192x7704_S4x8192x512_0_0_512) shapeCasts_S4x8192x512_S32768x512

theorem mv_apply (x : FVec Ideal S4x8192x1024 .f32) (a : FVec Ideal S4x6144 .f32) (g : FVec Ideal S1024 .f32)
    (w : FVec Ideal S1024x7704 .f32) (r : Fin 32768) (j : Fin 512) :
    (mv x a g w (ix2 r j) : EReal)
      = col (row x a g ⟨r.val / 8192, by omega⟩ ⟨r.val % 8192, by omega⟩) (fun k => w (ix2 k ⟨512 + j.val, by omega⟩)) := by
  unfold mv
  pointwise

  exact proj_apply x a g w _ _ _

def mo (x : FVec Ideal S4x8192x1024 .f32) (a : FVec Ideal S4x6144 .f32) (g : FVec Ideal S1024 .f32)
    (w : FVec Ideal S1024x7704 .f32) : FVec Ideal S32768x512 .f32 :=
  shapeCast _ (extractStridedSlice S4x8192x512 ![0, 0, 1032] (proj x a g w) slices_S4x8192x7704_S4x8192x512_0_0_1032) shapeCasts_S4x8192x512_S32768x512

theorem mo_apply (x : FVec Ideal S4x8192x1024 .f32) (a : FVec Ideal S4x6144 .f32) (g : FVec Ideal S1024 .f32)
    (w : FVec Ideal S1024x7704 .f32) (r : Fin 32768) (j : Fin 512) :
    (mo x a g w (ix2 r j) : EReal)
      = col (row x a g ⟨r.val / 8192, by omega⟩ ⟨r.val % 8192, by omega⟩) (fun k => w (ix2 k ⟨1032 + j.val, by omega⟩)) := by
  unfold mo
  pointwise

  exact proj_apply x a g w _ _ _

def sz (x : FVec Ideal S4x8192x1024 .f32) (a : FVec Ideal S4x6144 .f32) (g : FVec Ideal S1024 .f32)
    (w : FVec Ideal S1024x7704 .f32) : FVec Ideal S32768x512 .f32 :=
  shapeCast _ (extractStridedSlice S4x8192x512 ![0, 0, 1544] (proj x a g w) slices_S4x8192x7704_S4x8192x512_0_0_1544) shapeCasts_S4x8192x512_S32768x512

theorem sz_apply (x : FVec Ideal S4x8192x1024 .f32) (a : FVec Ideal S4x6144 .f32) (g : FVec Ideal S1024 .f32)
    (w : FVec Ideal S1024x7704 .f32) (r : Fin 32768) (j : Fin 512) :
    (sz x a g w (ix2 r j) : EReal)
      = col (row x a g ⟨r.val / 8192, by omega⟩ ⟨r.val % 8192, by omega⟩) (fun k => w (ix2 k ⟨1544 + j.val, by omega⟩)) := by
  unfold sz
  pointwise

  exact proj_apply x a g w _ _ _

def sxbc (x : FVec Ideal S4x8192x1024 .f32) (a : FVec Ideal S4x6144 .f32) (g : FVec Ideal S1024 .f32)
    (w : FVec Ideal S1024x7704 .f32) : FVec Ideal S32768x1024 .f32 :=
  shapeCast _ (extractStridedSlice S4x8192x1024 ![0, 0, 2056] (proj x a g w) slices_S4x8192x7704_S4x8192x1024_0_0_2056) shapeCasts_S4x8192x1024_S32768x1024

theorem sxbc_apply (x : FVec Ideal S4x8192x1024 .f32) (a : FVec Ideal S4x6144 .f32) (g : FVec Ideal S1024 .f32)
    (w : FVec Ideal S1024x7704 .f32) (r : Fin 32768) (j : Fin 1024) :
    (sxbc x a g w (ix2 r j) : EReal)
      = col (row x a g ⟨r.val / 8192, by omega⟩ ⟨r.val % 8192, by omega⟩) (fun k => w (ix2 k ⟨2056 + j.val, by omega⟩)) := by
  unfold sxbc
  pointwise

  exact proj_apply x a g w _ _ _

def fq (x : FVec Ideal S4x8192x1024 .f32) (a : FVec Ideal S4x6144 .f32) (g : FVec Ideal S1024 .f32)
    (w : FVec Ideal S1024x7704 .f32) : FVec Ideal S32768x512 .bf16 :=
  truncf .bf16 (shapeCast _ (mulf (extractStridedSlice S4x8192x512 ![0, 0, 3088] (proj x a g w) slices_S4x8192x7704_S4x8192x512_0_0_3088)
    (broadcastInDim S4x8192x512 ![] bcast_S_S4x8192x512 (constant S_ .f32 0x3E000000#32))) shapeCasts_S4x8192x512_S32768x512 : FVec Ideal S32768x512 .f32) bitsLt_bf16_f32

theorem fq_apply (x : FVec Ideal S4x8192x1024 .f32) (a : FVec Ideal S4x6144 .f32) (g : FVec Ideal S1024 .f32)
    (w : FVec Ideal S1024x7704 .f32) (r : Fin 32768) (j : Fin 512) :
    (fq x a g w (ix2 r j) : EReal)
      = col (row x a g ⟨r.val / 8192, by omega⟩ ⟨r.val % 8192, by omega⟩) (fun k => w (ix2 k ⟨3088 + j.val, by omega⟩)) * Ideal.ofBits .f32 0x3E000000#32 := by
  unfold fq
  pointwise
  refine congrArg (· * _) ?_
  exact proj_apply x a g w _ _ _

def small (x : FVec Ideal S4x8192x1024 .f32) (a : FVec Ideal S4x6144 .f32) (g : FVec Ideal S1024 .f32)
    (w : FVec Ideal S1024x7704 .f32) : FVec Ideal S32768x128 .f32 :=
  shapeCast _ (concatenate S4x8192x128 2 [⟨S4x8192x4, (extractStridedSlice S4x8192x4 ![0, 0, 1024] (proj x a g w) slices_S4x8192x7704_S4x8192x4_0_0_1024 : FVec Ideal S4x8192x4 .f32)⟩,
    ⟨S4x8192x4, (extractStridedSlice S4x8192x4 ![0, 0, 1028] (proj x a g w) slices_S4x8192x7704_S4x8192x4_0_0_1028 : FVec Ideal S4x8192x4 .f32)⟩,
    ⟨S4x8192x8, (extractStridedSlice S4x8192x8 ![0, 0, 3080] (proj x a g w) slices_S4x8192x7704_S4x8192x8_0_0_3080 : FVec Ideal S4x8192x8 .f32)⟩,
    ⟨S4x8192x8, (extractStridedSlice S4x8192x8 ![0, 0, 4624] (proj x a g w) slices_S4x8192x7704_S4x8192x8_0_0_4624 : FVec Ideal S4x8192x8 .f32)⟩,
    ⟨S4x8192x4, (extractStridedSlice S4x8192x4 ![0, 0, 1028] (proj x a g w) slices_S4x8192x7704_S4x8192x4_0_0_1028 : FVec Ideal S4x8192x4 .f32)⟩,
    ⟨S4x8192x4, (broadcastInDim S4x8192x4 ![] bcast_S_S4x8192x4 (constant S_ .f32 0x00000000#32) : FVec Ideal S4x8192x4 .f32)⟩,
    ⟨S4x8192x8, (extractStridedSlice S4x8192x8 ![0, 0, 3080] (proj x a g w) slices_S4x8192x7704_S4x8192x8_0_0_3080 : FVec Ideal S4x8192x8 .f32)⟩,
    ⟨S4x8192x8, (extractStridedSlice S4x8192x8 ![0, 0, 4624] (proj x a g w) slices_S4x8192x7704_S4x8192x8_0_0_4624 : FVec Ideal S4x8192x8 .f32)⟩,
    ⟨S4x8192x80, (broadcastInDim S4x8192x80 ![] bcast_S_S4x8192x80 (constant S_ .f32 0x00000000#32) : FVec Ideal S4x8192x80 .f32)⟩] concatenates_S4x8192x4_S4x8192x4_S4x8192x8_S4x8192x8_S4x8192x4_S4x8192x4_S4x8192x8_S4x8192x8_S4x8192x80_S4x8192x128_d2 : FVec Ideal S4x8192x128 .f32) shapeCasts_S4x8192x128_S32768x128

theorem small_apply (x : FVec Ideal S4x8192x1024 .f32) (a : FVec Ideal S4x6144 .f32) (g : FVec Ideal S1024 .f32)
    (w : FVec Ideal S1024x7704 .f32) (r : Fin 32768) (j : Fin 128) :
    (small x a g w (ix2 r j) : EReal)
      = lanes (fun q => col (row x a g ⟨r.val / 8192, by omega⟩ ⟨r.val % 8192, by omega⟩) (fun k => w (ix2 k q))) j := by
  simp only [← proj_apply]
  unfold small
  pointwise
  rfl

def small_t (x : FVec Ideal S4x8192x1024 .f32) (a : FVec Ideal S4x6144 .f32) (g : FVec Ideal S1024 .f32)
    (w : FVec Ideal S1024x7704 .f32) : FVec Ideal S128x32768 .f32 :=
  transpose S128x32768 [1, 0] (small x a g w) transposes_S32768x128_S128x32768_1_0

theorem small_t_apply (x : FVec Ideal S4x8192x1024 .f32) (a : FVec Ideal S4x6144 .f32) (g : FVec Ideal S1024 .f32)
    (w : FVec Ideal S1024x7704 .f32) (r : Fin 32768) (j : Fin 128) :
    (small_t x a g w (ix2 j r) : EReal) = small x a g w (ix2 r j) := by
  pointwise [small_t]

def fk (x : FVec Ideal S4x8192x1024 .f32) (a : FVec Ideal S4x6144 .f32) (g : FVec Ideal S1024 .f32)
    (w : FVec Ideal S1024x7704 .f32) : FVec Ideal S4x512x8192 .f32 :=
  transpose S4x512x8192 [0, 2, 1] (extractStridedSlice S4x8192x512 ![0, 0, 3600] (proj x a g w) slices_S4x8192x7704_S4x8192x512_0_0_3600) transposes_S4x8192x512_S4x512x8192_0_2_1

theorem fk_apply (x : FVec Ideal S4x8192x1024 .f32) (a : FVec Ideal S4x6144 .f32) (g : FVec Ideal S1024 .f32)
    (w : FVec Ideal S1024x7704 .f32) (b : Fin 4) (s : Fin 8192) (j : Fin 512) :
    (fk x a g w (ix3 b j s) : EReal) = col (row x a g b s) (fun k => w (ix2 k ⟨3600 + j.val, by omega⟩)) := by
  unfold fk
  pointwise
  exact proj_apply x a g w _ _ _

def fv (x : FVec Ideal S4x8192x1024 .f32) (a : FVec Ideal S4x6144 .f32) (g : FVec Ideal S1024 .f32)
    (w : FVec Ideal S1024x7704 .f32) : FVec Ideal S4x512x8192 .f32 :=
  transpose S4x512x8192 [0, 2, 1] (extractStridedSlice S4x8192x512 ![0, 0, 4112] (proj x a g w) slices_S4x8192x7704_S4x8192x512_0_0_4112) transposes_S4x8192x512_S4x512x8192_0_2_1

theorem fv_apply (x : FVec Ideal S4x8192x1024 .f32) (a : FVec Ideal S4x6144 .f32) (g : FVec Ideal S1024 .f32)
    (w : FVec Ideal S1024x7704 .f32) (b : Fin 4) (s : Fin 8192) (j : Fin 512) :
    (fv x a g w (ix3 b j s) : EReal) = col (row x a g b s) (fun k => w (ix2 k ⟨4112 + j.val, by omega⟩)) := by
  unfold fv
  pointwise
  exact proj_apply x a g w _ _ _

theorem mq_of (m : (ℓ : Loc nD τ sig) → Buf (Elt Ideal) ℓ) (c : Dev nD) (x : FVec Ideal S4x8192x1024 .f32) (a : FVec Ideal S4x6144 .f32) (g : FVec Ideal S1024 .f32)
    (w : FVec Ideal S1024x7704 .f32)
    (h0 : m ((c.tc : Thread nD τ).loc main_arg0) = x) (h1 : m ((c.tc : Thread nD τ).loc main_arg1) = a)
    (h2 : m ((c.tc : Thread nD τ).loc main_arg2) = g) (h3 : m ((c.tc : Thread nD τ).loc main_arg3) = w) :
    (mq (m ((c.tc : Thread nD τ).loc main_arg0)) (m ((c.tc : Thread nD τ).loc main_arg1)) (m ((c.tc : Thread nD τ).loc main_arg2))
      (m ((c.tc : Thread nD τ).loc main_arg3)) : FVec Ideal S32768x256 .f32) = mq x a g w := by
  rw [← h0, ← h1, ← h2, ← h3]

theorem mk_of (m : (ℓ : Loc nD τ sig) → Buf (Elt Ideal) ℓ) (c : Dev nD) (x : FVec Ideal S4x8192x1024 .f32) (a : FVec Ideal S4x6144 .f32) (g : FVec Ideal S1024 .f32)
    (w : FVec Ideal S1024x7704 .f32)
    (h0 : m ((c.tc : Thread nD τ).loc main_arg0) = x) (h1 : m ((c.tc : Thread nD τ).loc main_arg1) = a)
    (h2 : m ((c.tc : Thread nD τ).loc main_arg2) = g) (h3 : m ((c.tc : Thread nD τ).loc main_arg3) = w) :
    (mk (m ((c.tc : Thread nD τ).loc main_arg0)) (m ((c.tc : Thread nD τ).loc main_arg1)) (m ((c.tc : Thread nD τ).loc main_arg2))
      (m ((c.tc : Thread nD τ).loc main_arg3)) : FVec Ideal S32768x256 .f32) = mk x a g w := by
  rw [← h0, ← h1, ← h2, ← h3]

theorem mv_of (m : (ℓ : Loc nD τ sig) → Buf (Elt Ideal) ℓ) (c : Dev nD) (x : FVec Ideal S4x8192x1024 .f32) (a : FVec Ideal S4x6144 .f32) (g : FVec Ideal S1024 .f32)
    (w : FVec Ideal S1024x7704 .f32)
    (h0 : m ((c.tc : Thread nD τ).loc main_arg0) = x) (h1 : m ((c.tc : Thread nD τ).loc main_arg1) = a)
    (h2 : m ((c.tc : Thread nD τ).loc main_arg2) = g) (h3 : m ((c.tc : Thread nD τ).loc main_arg3) = w) :
    (mv (m ((c.tc : Thread nD τ).loc main_arg0)) (m ((c.tc : Thread nD τ).loc main_arg1)) (m ((c.tc : Thread nD τ).loc main_arg2))
      (m ((c.tc : Thread nD τ).loc main_arg3)) : FVec Ideal S32768x512 .f32) = mv x a g w := by
  rw [← h0, ← h1, ← h2, ← h3]

theorem mo_of (m : (ℓ : Loc nD τ sig) → Buf (Elt Ideal) ℓ) (c : Dev nD) (x : FVec Ideal S4x8192x1024 .f32) (a : FVec Ideal S4x6144 .f32) (g : FVec Ideal S1024 .f32)
    (w : FVec Ideal S1024x7704 .f32)
    (h0 : m ((c.tc : Thread nD τ).loc main_arg0) = x) (h1 : m ((c.tc : Thread nD τ).loc main_arg1) = a)
    (h2 : m ((c.tc : Thread nD τ).loc main_arg2) = g) (h3 : m ((c.tc : Thread nD τ).loc main_arg3) = w) :
    (mo (m ((c.tc : Thread nD τ).loc main_arg0)) (m ((c.tc : Thread nD τ).loc main_arg1)) (m ((c.tc : Thread nD τ).loc main_arg2))
      (m ((c.tc : Thread nD τ).loc main_arg3)) : FVec Ideal S32768x512 .f32) = mo x a g w := by
  rw [← h0, ← h1, ← h2, ← h3]

theorem sz_of (m : (ℓ : Loc nD τ sig) → Buf (Elt Ideal) ℓ) (c : Dev nD) (x : FVec Ideal S4x8192x1024 .f32) (a : FVec Ideal S4x6144 .f32) (g : FVec Ideal S1024 .f32)
    (w : FVec Ideal S1024x7704 .f32)
    (h0 : m ((c.tc : Thread nD τ).loc main_arg0) = x) (h1 : m ((c.tc : Thread nD τ).loc main_arg1) = a)
    (h2 : m ((c.tc : Thread nD τ).loc main_arg2) = g) (h3 : m ((c.tc : Thread nD τ).loc main_arg3) = w) :
    (sz (m ((c.tc : Thread nD τ).loc main_arg0)) (m ((c.tc : Thread nD τ).loc main_arg1)) (m ((c.tc : Thread nD τ).loc main_arg2))
      (m ((c.tc : Thread nD τ).loc main_arg3)) : FVec Ideal S32768x512 .f32) = sz x a g w := by
  rw [← h0, ← h1, ← h2, ← h3]

theorem sxbc_of (m : (ℓ : Loc nD τ sig) → Buf (Elt Ideal) ℓ) (c : Dev nD) (x : FVec Ideal S4x8192x1024 .f32) (a : FVec Ideal S4x6144 .f32) (g : FVec Ideal S1024 .f32)
    (w : FVec Ideal S1024x7704 .f32)
    (h0 : m ((c.tc : Thread nD τ).loc main_arg0) = x) (h1 : m ((c.tc : Thread nD τ).loc main_arg1) = a)
    (h2 : m ((c.tc : Thread nD τ).loc main_arg2) = g) (h3 : m ((c.tc : Thread nD τ).loc main_arg3) = w) :
    (sxbc (m ((c.tc : Thread nD τ).loc main_arg0)) (m ((c.tc : Thread nD τ).loc main_arg1)) (m ((c.tc : Thread nD τ).loc main_arg2))
      (m ((c.tc : Thread nD τ).loc main_arg3)) : FVec Ideal S32768x1024 .f32) = sxbc x a g w := by
  rw [← h0, ← h1, ← h2, ← h3]

theorem fq_of (m : (ℓ : Loc nD τ sig) → Buf (Elt Ideal) ℓ) (c : Dev nD) (x : FVec Ideal S4x8192x1024 .f32) (a : FVec Ideal S4x6144 .f32) (g : FVec Ideal S1024 .f32)
    (w : FVec Ideal S1024x7704 .f32)
    (h0 : m ((c.tc : Thread nD τ).loc main_arg0) = x) (h1 : m ((c.tc : Thread nD τ).loc main_arg1) = a)
    (h2 : m ((c.tc : Thread nD τ).loc main_arg2) = g) (h3 : m ((c.tc : Thread nD τ).loc main_arg3) = w) :
    (fq (m ((c.tc : Thread nD τ).loc main_arg0)) (m ((c.tc : Thread nD τ).loc main_arg1)) (m ((c.tc : Thread nD τ).loc main_arg2))
      (m ((c.tc : Thread nD τ).loc main_arg3)) : FVec Ideal S32768x512 .bf16) = fq x a g w := by
  rw [← h0, ← h1, ← h2, ← h3]

theorem small_of (m : (ℓ : Loc nD τ sig) → Buf (Elt Ideal) ℓ) (c : Dev nD) (x : FVec Ideal S4x8192x1024 .f32) (a : FVec Ideal S4x6144 .f32) (g : FVec Ideal S1024 .f32)
    (w : FVec Ideal S1024x7704 .f32)
    (h0 : m ((c.tc : Thread nD τ).loc main_arg0) = x) (h1 : m ((c.tc : Thread nD τ).loc main_arg1) = a)
    (h2 : m ((c.tc : Thread nD τ).loc main_arg2) = g) (h3 : m ((c.tc : Thread nD τ).loc main_arg3) = w) :
    (small (m ((c.tc : Thread nD τ).loc main_arg0)) (m ((c.tc : Thread nD τ).loc main_arg1)) (m ((c.tc : Thread nD τ).loc main_arg2))
      (m ((c.tc : Thread nD τ).loc main_arg3)) : FVec Ideal S32768x128 .f32) = small x a g w := by
  rw [← h0, ← h1, ← h2, ← h3]

theorem small_t_of (m : (ℓ : Loc nD τ sig) → Buf (Elt Ideal) ℓ) (c : Dev nD) (x : FVec Ideal S4x8192x1024 .f32) (a : FVec Ideal S4x6144 .f32) (g : FVec Ideal S1024 .f32)
    (w : FVec Ideal S1024x7704 .f32)
    (h0 : m ((c.tc : Thread nD τ).loc main_arg0) = x) (h1 : m ((c.tc : Thread nD τ).loc main_arg1) = a)
    (h2 : m ((c.tc : Thread nD τ).loc main_arg2) = g) (h3 : m ((c.tc : Thread nD τ).loc main_arg3) = w) :
    (small_t (m ((c.tc : Thread nD τ).loc main_arg0)) (m ((c.tc : Thread nD τ).loc main_arg1)) (m ((c.tc : Thread nD τ).loc main_arg2))
      (m ((c.tc : Thread nD τ).loc main_arg3)) : FVec Ideal S128x32768 .f32) = small_t x a g w := by
  rw [← h0, ← h1, ← h2, ← h3]

theorem fk_of (m : (ℓ : Loc nD τ sig) → Buf (Elt Ideal) ℓ) (c : Dev nD) (x : FVec Ideal S4x8192x1024 .f32) (a : FVec Ideal S4x6144 .f32) (g : FVec Ideal S1024 .f32)
    (w : FVec Ideal S1024x7704 .f32)
    (h0 : m ((c.tc : Thread nD τ).loc main_arg0) = x) (h1 : m ((c.tc : Thread nD τ).loc main_arg1) = a)
    (h2 : m ((c.tc : Thread nD τ).loc main_arg2) = g) (h3 : m ((c.tc : Thread nD τ).loc main_arg3) = w) :
    (fk (m ((c.tc : Thread nD τ).loc main_arg0)) (m ((c.tc : Thread nD τ).loc main_arg1)) (m ((c.tc : Thread nD τ).loc main_arg2))
      (m ((c.tc : Thread nD τ).loc main_arg3)) : FVec Ideal S4x512x8192 .f32) = fk x a g w := by
  rw [← h0, ← h1, ← h2, ← h3]

theorem fv_of (m : (ℓ : Loc nD τ sig) → Buf (Elt Ideal) ℓ) (c : Dev nD) (x : FVec Ideal S4x8192x1024 .f32) (a : FVec Ideal S4x6144 .f32) (g : FVec Ideal S1024 .f32)
    (w : FVec Ideal S1024x7704 .f32)
    (h0 : m ((c.tc : Thread nD τ).loc main_arg0) = x) (h1 : m ((c.tc : Thread nD τ).loc main_arg1) = a)
    (h2 : m ((c.tc : Thread nD τ).loc main_arg2) = g) (h3 : m ((c.tc : Thread nD τ).loc main_arg3) = w) :
    (fv (m ((c.tc : Thread nD τ).loc main_arg0)) (m ((c.tc : Thread nD τ).loc main_arg1)) (m ((c.tc : Thread nD τ).loc main_arg2))
      (m ((c.tc : Thread nD τ).loc main_arg3)) : FVec Ideal S4x512x8192 .f32) = fv x a g w := by
  rw [← h0, ← h1, ← h2, ← h3]

end Cert.InprojReferenceIdeal.Ref

end
-- ==== Proof.InprojBody.lean ====
/- The in-projection: what a grid point's stores hold. -/
module

public import proofs.«01_k».proof.Proof.Gen.InprojIdeal.Value
public import proofs.«01_k».proof.Proof.Inproj

@[expose] public section

set_option maxRecDepth 16384

noncomputable section

open Idealize.ShloMosaic Idealize.ShloMosaic.TcCoe Idealize.ShloMosaic.Tactic

namespace Cert.InprojIdeal.Value

open Cert.InprojIdeal Cert.InprojIdeal.Gen Cert.Mixer

theorem z2 : (![0, 0] : Fin 2 → ℕ) = fun _ => 0 := funext fun a => by fin_cases a <;> rfl

theorem z3 : (![0, 0, 0] : Fin 3 → ℕ) = fun _ => 0 := funext fun a => by fin_cases a <;> rfl

theorem hid_apply (x0 : Vec Ideal S1x256x1024 .f32) (x3 : Vec Ideal S1x1024 .f32) (x2 x1 : Vec Ideal S1x1x1024 .f32)
    (r : Fin 256) (e : Fin 1024) :
    (k0_pay6 x0 x3 x2 x1 (ix2 r e) : EReal)
      = hidden (fun j => x0 (ix3 0 r j)) (fun j => x3 (ix2 0 j)) (fun j => x2 (ix3 0 0 j)) (fun j => x1 (ix3 0 0 j)) e := by
  pointwise [k0_pay6]
  rfl

theorem mq_apply (x0 : Vec Ideal S1x256x1024 .f32) (x3 : Vec Ideal S1x1024 .f32) (x2 x1 : Vec Ideal S1x1x1024 .f32) (w : Vec Ideal S1024x256 .bf16) (r : Fin 256) (j : Fin 256) :
    (k0_pay7 x0 x3 x2 x1 w (ix2 r j) : EReal) = col (fun k => k0_pay6 x0 x3 x2 x1 (ix2 r k)) (fun k => w (ix2 k j)) * Ideal.ofBits .f32 0x3E000000#32 := by
  pointwise [k0_pay7]
  rfl

theorem mk_apply (h : FVec Ideal S256x1024 .bf16) (w : Vec Ideal S1024x256 .bf16) (r : Fin 256) (j : Fin 256) :
    (k0_pay8 h w (ix2 r j) : EReal) = col (fun k => h (ix2 r k)) (fun k => w (ix2 k j)) := by
  pointwise [k0_pay8]
  rfl

theorem mv_apply (h : FVec Ideal S256x1024 .bf16) (w : Vec Ideal S1024x512 .bf16) (r : Fin 256) (j : Fin 512) :
    (k0_pay9 h w (ix2 r j) : EReal) = col (fun k => h (ix2 r k)) (fun k => w (ix2 k j)) := by
  pointwise [k0_pay9]
  rfl

theorem mo_apply (h : FVec Ideal S256x1024 .bf16) (w : Vec Ideal S1024x512 .bf16) (r : Fin 256) (j : Fin 512) :
    (k0_pay10 h w (ix2 r j) : EReal) = col (fun k => h (ix2 r k)) (fun k => w (ix2 k j)) := by
  pointwise [k0_pay10]
  rfl

theorem sz_apply (h : FVec Ideal S256x1024 .bf16) (w : Vec Ideal S1024x512 .bf16) (r : Fin 256) (j : Fin 512) :
    (k0_pay11 h w (ix2 r j) : EReal) = col (fun k => h (ix2 r k)) (fun k => w (ix2 k j)) := by
  pointwise [k0_pay11]
  rfl

theorem sxbc_apply (h : FVec Ideal S256x1024 .bf16) (w : Vec Ideal S1024x1024 .bf16) (r : Fin 256) (j : Fin 1024) :
    (k0_pay12 h w (ix2 r j) : EReal) = col (fun k => h (ix2 r k)) (fun k => w (ix2 k j)) := by
  pointwise [k0_pay12]
  rfl

theorem fq_apply (h : FVec Ideal S256x1024 .bf16) (w : Vec Ideal S1024x512 .bf16) (r : Fin 256) (j : Fin 512) :
    (k0_pay13 h w (ix2 r j) : EReal) = col (fun k => h (ix2 r k)) (fun k => w (ix2 k j)) * Ideal.ofBits .f32 0x3E000000#32 := by
  pointwise [k0_pay13]
  rfl

theorem small_apply (h : FVec Ideal S256x1024 .bf16) (w : Vec Ideal S1024x128 .bf16) (r : Fin 256) (j : Fin 128) :
    (k0_pay1 h w (ix2 r j) : EReal) = col (fun k => h (ix2 r k)) (fun k => w (ix2 k j)) := by
  pointwise [k0_pay1]
  rfl

theorem fk_apply (h : FVec Ideal S256x1024 .bf16) (w : Vec Ideal S1024x1024 .bf16) (r : Fin 256) (j : Fin 512) :
    (k0_pay4 h w (ix3 0 j r) : EReal) = col (fun k => h (ix2 r k)) (fun k => w (ix2 ⟨0 + j.val, by omega⟩ k)) := by
  pointwise [k0_pay4, k0_pay3]
  exact Finset.sum_congr rfl fun k _ => mul_comm _ _

theorem fv_apply (h : FVec Ideal S256x1024 .bf16) (w : Vec Ideal S1024x1024 .bf16) (r : Fin 256) (j : Fin 512) :
    (k0_pay5 h w (ix3 0 j r) : EReal) = col (fun k => h (ix2 r k)) (fun k => w (ix2 ⟨512 + j.val, by omega⟩ k)) := by
  pointwise [k0_pay5, k0_pay3]
  exact Finset.sum_congr rfl fun k _ => mul_comm _ _

theorem small_t_apply (s : Vec Ideal S256x128 .f32) (r : Fin 256) (j : Fin 128) : (k0_pay2 s (ix2 j r) : EReal) = s (ix2 r j) := by
  pointwise [k0_pay2]

variable (m : (ℓ : Loc nD τ sig) → Buf (Elt Ideal) ℓ) (c : Dev nD)

/-- The hidden row that row `r` of a point's block becomes. -/
abbrev hid (t : Fin cfg0.N) (r : Fin 256) : Fin 1024 → EReal :=
  hidden (fun j => iblk m c 0 t (ix3 0 r j)) (fun j => iblk m c 3 t (ix2 0 j)) (fun j => iblk m c 2 t (ix3 0 0 j))
    (fun j => iblk m c 1 t (ix3 0 0 j))

theorem ld_cols {n : ℕ} (o : ℕ) (X : Vec Ideal S1024x3712 .bf16) (inb : ∀ a, (![0, o] : Fin 2 → ℕ) a + (![1024, n] : Fin 2 → ℕ) a ≤ S1024x3712.size a)
    (k : Fin 1024) (j : Fin n) (h : o + j.val < 3712) :
    View.ld X (Rect.unit (s := S1024x3712) ![0, o] ![1024, n] inb) (ix2 k j) = X (ix2 k ⟨o + j.val, h⟩) := by
  rw [View.ld_unit]
  refine congrArg X (funext fun a => Fin.ext ?_)
  fin_cases a
  · exact Nat.zero_add _
  · rfl

theorem hid_row (t : Fin cfg0.N) (r : Fin 256) (e : Fin 1024) :
    (k0_pay6
      (View.readAt (Elt Ideal) (ms0_0 t).view (Rect.unit (s := S1x256x1024) ![0, 0, 0] S1x256x1024.size inb_S1x256x1024_S1x256x1024_0_0_0).toLoadRect ((hs0_0 t).unread (iblk m c 0 t)))
      (View.readAt (Elt Ideal) (ms0_3 t).view (Rect.unit (s := S1x1024) ![0, 0] S1x1024.size inb_S1x1024_S1x1024_0_0).toLoadRect ((hs0_3 t).unread (iblk m c 3 t)))
      (View.readAt (Elt Ideal) (ms0_2 t).view (Rect.unit (s := S1x1x1024) ![0, 0, 0] S1x1x1024.size inb_S1x1x1024_S1x1x1024_0_0_0).toLoadRect ((hs0_2 t).unread (iblk m c 2 t)))
      (View.readAt (Elt Ideal) (ms0_1 t).view (Rect.unit (s := S1x1x1024) ![0, 0, 0] S1x1x1024.size inb_S1x1x1024_S1x1x1024_0_0_0).toLoadRect ((hs0_1 t).unread (iblk m c 1 t)))
      (ix2 r e) : EReal) = hid m c t r e := by
  rw [hid_apply]
  rw [View.readAt_eq_ld, View.readAt_eq_ld, View.readAt_eq_ld, View.readAt_eq_ld]
  rw [(hs0_0 t).read_unread, (hs0_1 t).read_unread, (hs0_2 t).read_unread, (hs0_3 t).read_unread]
  rw [View.ld_unit_zero (S := S1x256x1024) z3, View.ld_unit_zero (S := S1x1024) z2, View.ld_unit_zero (S := S1x1x1024) z3, View.ld_unit_zero (S := S1x1x1024) z3]

theorem mq_out (t : Fin cfg0.N) (r : Fin 256) (j : Fin 256) :
    ((outsAt0 m c t).1 (ix2 r j) : EReal)
      = col (hid m c t r) (fun k => iblk m c 4 t (ix2 k ⟨0 + j.val, by omega⟩)) * Ideal.ofBits .f32 0x3E000000#32 := by
  unfold outsAt0
  dsimp only
  unfold out0_A_6
  rw [View.read_writes_junk_eq_canon]
  unfold kernelRun0_A
  dsimp only
  rw [View.canon_unit_zero z2]
  refine (mq_apply _ _ _ _ _ r j).trans ?_
  refine congrArg (· * _) ?_
  refine congrArg₂ col (funext fun e => hid_row m c t r e) (funext fun k => ?_)
  rw [View.readAt_eq_ld, (hs0_4 t).read_unread]
  exact ld_cols 0 _ _ k j _

theorem mk_out (t : Fin cfg0.N) (r : Fin 256) (j : Fin 256) :
    ((outsAt0 m c t).2.1 (ix2 r j) : EReal)
      = col (hid m c t r) (fun k => iblk m c 4 t (ix2 k ⟨256 + j.val, by omega⟩)) := by
  unfold outsAt0
  dsimp only
  unfold out0_A_7
  rw [View.read_writes_junk_eq_canon]
  unfold kernelRun0_A
  dsimp only
  rw [View.canon_unit_zero z2]
  refine (mk_apply _ _ r j).trans ?_

  refine congrArg₂ col (funext fun e => hid_row m c t r e) (funext fun k => ?_)
  rw [View.readAt_eq_ld, (hs0_4 t).read_unread]
  exact ld_cols 256 _ _ k j _

theorem mv_out (t : Fin cfg0.N) (r : Fin 256) (j : Fin 512) :
    ((outsAt0 m c t).2.2.1 (ix2 r j) : EReal)
      = col (hid m c t r) (fun k => iblk m c 4 t (ix2 k ⟨512 + j.val, by omega⟩)) := by
  unfold outsAt0
  dsimp only
  unfold out0_A_8
  rw [View.read_writes_junk_eq_canon]
  unfold kernelRun0_A
  dsimp only
  rw [View.canon_unit_zero z2]
  refine (mv_apply _ _ r j).trans ?_

  refine congrArg₂ col (funext fun e => hid_row m c t r e) (funext fun k => ?_)
  rw [View.readAt_eq_ld, (hs0_4 t).read_unread]
  exact ld_cols 512 _ _ k j _

theorem mo_out (t : Fin cfg0.N) (r : Fin 256) (j : Fin 512) :
    ((outsAt0 m c t).2.2.2.1 (ix2 r j) : EReal)
      = col (hid m c t r) (fun k => iblk m c 4 t (ix2 k ⟨1024 + j.val, by omega⟩)) := by
  unfold outsAt0
  dsimp only
  unfold out0_A_9
  rw [View.read_writes_junk_eq_canon]
  unfold kernelRun0_A
  dsimp only
  rw [View.canon_unit_zero z2]
  refine (mo_apply _ _ r j).trans ?_

  refine congrArg₂ col (funext fun e => hid_row m c t r e) (funext fun k => ?_)
  rw [View.readAt_eq_ld, (hs0_4 t).read_unread]
  exact ld_cols 1024 _ _ k j _

theorem sz_out (t : Fin cfg0.N) (r : Fin 256) (j : Fin 512) :
    ((outsAt0 m c t).2.2.2.2.1 (ix2 r j) : EReal)
      = col (hid m c t r) (fun k => iblk m c 4 t (ix2 k ⟨1536 + j.val, by omega⟩)) := by
  unfold outsAt0
  dsimp only
  unfold out0_A_10
  rw [View.read_writes_junk_eq_canon]
  unfold kernelRun0_A
  dsimp only
  rw [View.canon_unit_zero z2]
  refine (sz_apply _ _ r j).trans ?_

  refine congrArg₂ col (funext fun e => hid_row m c t r e) (funext fun k => ?_)
  rw [View.readAt_eq_ld, (hs0_4 t).read_unread]
  exact ld_cols 1536 _ _ k j _

theorem sxbc_out (t : Fin cfg0.N) (r : Fin 256) (j : Fin 1024) :
    ((outsAt0 m c t).2.2.2.2.2.1 (ix2 r j) : EReal)
      = col (hid m c t r) (fun k => iblk m c 4 t (ix2 k ⟨2048 + j.val, by omega⟩)) := by
  unfold outsAt0
  dsimp only
  unfold out0_A_11
  rw [View.read_writes_junk_eq_canon]
  unfold kernelRun0_A
  dsimp only
  rw [View.canon_unit_zero z2]
  refine (sxbc_apply _ _ r j).trans ?_

  refine congrArg₂ col (funext fun e => hid_row m c t r e) (funext fun k => ?_)
  rw [View.readAt_eq_ld, (hs0_4 t).read_unread]
  exact ld_cols 2048 _ _ k j _

theorem fq_out (t : Fin cfg0.N) (r : Fin 256) (j : Fin 512) :
    ((outsAt0 m c t).2.2.2.2.2.2.1 (ix2 r j) : EReal)
      = col (hid m c t r) (fun k => iblk m c 4 t (ix2 k ⟨3072 + j.val, by omega⟩)) * Ideal.ofBits .f32 0x3E000000#32 := by
  unfold outsAt0
  dsimp only
  unfold out0_A_12
  rw [View.read_writes_junk_eq_canon]
  unfold kernelRun0_A
  dsimp only
  rw [View.canon_unit_zero z2]
  refine (fq_apply _ _ r j).trans ?_
  refine congrArg (· * _) ?_
  refine congrArg₂ col (funext fun e => hid_row m c t r e) (funext fun k => ?_)
  rw [View.readAt_eq_ld, (hs0_4 t).read_unread]
  exact ld_cols 3072 _ _ k j _

theorem small_out (t : Fin cfg0.N) (r : Fin 256) (j : Fin 128) :
    ((outsAt0 m c t).2.2.2.2.2.2.2.1 (ix2 r j) : EReal)
      = col (hid m c t r) (fun k => iblk m c 4 t (ix2 k ⟨3584 + j.val, by omega⟩)) := by
  unfold outsAt0
  dsimp only
  unfold out0_A_13
  rw [View.read_writes_junk_eq_canon]
  unfold kernelRun0_A
  dsimp only
  unfold kernelRun0_A.sl.H13_1
  rw [View.canon_unit_zero z2]
  refine (small_apply _ _ r j).trans ?_

  refine congrArg₂ col (funext fun e => hid_row m c t r e) (funext fun k => ?_)
  rw [View.readAt_eq_ld, (hs0_4 t).read_unread]
  exact ld_cols 3584 _ _ k j _

theorem small_t_out (t : Fin cfg0.N) (r : Fin 256) (j : Fin 128) :
    ((outsAt0 m c t).2.2.2.2.2.2.2.2.1 (ix2 j r) : EReal) = col (hid m c t r) (fun k => iblk m c 4 t (ix2 k ⟨3584 + j.val, by omega⟩)) := by
  unfold outsAt0
  dsimp only
  unfold out0_A_14
  rw [View.read_writes_junk_eq_canon]
  unfold kernelRun0_A
  dsimp only
  rw [View.canon_unit_zero z2]
  refine (small_t_apply _ r j).trans ?_
  unfold kernelRun0_A.sl.v65 kernelRun0_A.sl.H13_1
  refine (congrFun (View.readCov_unit_zero (S := S256x128) _ z2 _ _) (ix2 r j)).trans ?_
  refine (small_apply _ _ r j).trans ?_
  refine congrArg₂ col (funext fun e => hid_row m c t r e) (funext fun k => ?_)
  rw [View.readAt_eq_ld, (hs0_4 t).read_unread]
  exact ld_cols 3584 _ _ k j _

theorem fk_out (t : Fin cfg0.N) (r : Fin 256) (j : Fin 512) :
    ((outsAt0 m c t).2.2.2.2.2.2.2.2.2.1 (ix3 0 j r) : EReal) = col (hid m c t r) (fun k => iblk m c 5 t (ix2 ⟨0 + j.val, by omega⟩ k)) := by
  unfold outsAt0
  dsimp only
  unfold out0_A_15
  rw [View.read_writes_junk_eq_canon]
  unfold kernelRun0_A
  dsimp only
  rw [View.canon_unit_zero z3]
  refine (fk_apply _ _ r j).trans ?_
  refine congrArg₂ col (funext fun e => hid_row m c t r e) (funext fun k => ?_)
  rw [View.readAt_eq_ld, (hs0_5 t).read_unread, View.ld_unit_zero (S := S1024x1024) z2]

theorem fv_out (t : Fin cfg0.N) (r : Fin 256) (j : Fin 512) :
    ((outsAt0 m c t).2.2.2.2.2.2.2.2.2.2 (ix3 0 j r) : EReal) = col (hid m c t r) (fun k => iblk m c 5 t (ix2 ⟨512 + j.val, by omega⟩ k)) := by
  unfold outsAt0
  dsimp only
  unfold out0_A_16
  rw [View.read_writes_junk_eq_canon]
  unfold kernelRun0_A
  dsimp only
  rw [View.canon_unit_zero z3]
  refine (fv_apply _ _ r j).trans ?_
  refine congrArg₂ col (funext fun e => hid_row m c t r e) (funext fun k => ?_)
  rw [View.readAt_eq_ld, (hs0_5 t).read_unread, View.ld_unit_zero (S := S1024x1024) z2]

end Cert.InprojIdeal.Value

end
-- ==== Proof.InprojCols.lean ====
/- The in-projection's windows, at the arguments' indices. -/
module

public import proofs.«01_k».proof.Proof.Gen.InprojIdeal.Value
public import proofs.«01_k».proof.Proof.Inproj

@[expose] public section

set_option maxRecDepth 16384

noncomputable section

open Idealize.ShloMosaic Idealize.ShloMosaic.TcCoe Idealize.ShloMosaic.Tactic

namespace Cert.InprojIdeal.Value

open Cert.InprojIdeal Cert.InprojIdeal.Gen Cert.Mixer

variable (m : (ℓ : Loc nD τ sig) → Buf (Elt Ideal) ℓ) (c : Dev nD)

theorem points : cfg0.N = 128 := by decide

theorem idx : ∀ t : Fin cfg0.N,
    win0_0.index t = ![t.val / 32, t.val % 32, 0] ∧ win0_1.index t = ![t.val / 32, 0, 0] ∧ win0_2.index t = ![t.val / 32, 0, 1]
      ∧ win0_3.index t = ![0, 0] ∧ win0_4.index t = ![0, 0] ∧ win0_5.index t = ![0, 0] ∧ win0_6.index t = ![t.val, 0]
      ∧ win0_7.index t = ![t.val, 0] ∧ win0_8.index t = ![t.val, 0] ∧ win0_9.index t = ![t.val, 0] ∧ win0_10.index t = ![t.val, 0]
      ∧ win0_11.index t = ![t.val, 0] ∧ win0_12.index t = ![t.val, 0] ∧ win0_13.index t = ![t.val, 0]
      ∧ win0_14.index t = ![0, t.val] ∧ win0_15.index t = ![t.val / 32, 0, t.val % 32]
      ∧ win0_16.index t = ![t.val / 32, 0, t.val % 32] :=
  (by decide +kernel : ∀ t : Fin grid0.N, _)

abbrev bat (t : Fin cfg0.N) : Fin 4 := ⟨t.val / 32, by have := points; omega⟩

abbrev pos (t : Fin cfg0.N) (r : Fin 256) : Fin 8192 := ⟨256 * (t.val % 32) + r.val, by omega⟩

/-- A point's row among all rows. -/
abbrev line (t : Fin cfg0.N) (r : Fin 256) : Fin 32768 := ⟨256 * t.val + r.val, by have := points; omega⟩

/-- The arguments, at their shapes. -/
abbrev argX : FVec Ideal S4x8192x1024 .f32 := m ((c : Thread nD τ).loc main_arg0)
abbrev argA : FVec Ideal S4x6144 .f32 := m ((c : Thread nD τ).loc main_arg1)
abbrev argG : FVec Ideal S1024 .f32 := m ((c : Thread nD τ).loc main_arg2)
abbrev argW : FVec Ideal S1024x7704 .f32 := m ((c : Thread nD τ).loc main_arg3)

theorem x_at (t : Fin cfg0.N) (r : Fin 256) (j : Fin 1024) :
    (iblk m c 0 t (ix3 0 r j) : EReal) = argX m c (ix3 (bat t) (pos t r) j) := by
  blk_simp [iblk, idx t]
  rw [show ((win0_0.blk t).view.emb (ix3 0 r j)) = ix3 (bat t) (pos t r) j by blk_ext [idx t]]
  rfl

theorem shift_at (t : Fin cfg0.N) (j : Fin 1024) :
    (iblk m c 1 t (ix3 0 0 j) : EReal) = argA m c (ix2 (bat t) ⟨0 + j.val, by omega⟩) := by
  blk_simp [iblk, idx t]
  rw [show ((win0_1.blk t).view.emb (ix3 0 0 j)) = ix3 (bat t) 0 ⟨0 + j.val, by omega⟩ by blk_ext [idx t]]
  entry_read
  pointwise

theorem scale_at (t : Fin cfg0.N) (j : Fin 1024) :
    (iblk m c 2 t (ix3 0 0 j) : EReal) = argA m c (ix2 (bat t) ⟨1024 + j.val, by omega⟩) := by
  blk_simp [iblk, idx t]
  rw [show ((win0_2.blk t).view.emb (ix3 0 0 j)) = ix3 (bat t) 0 ⟨1024 + j.val, by omega⟩ by blk_ext [idx t]]
  entry_read
  pointwise

theorem pre_at (t : Fin cfg0.N) (j : Fin 1024) : (iblk m c 3 t (ix2 0 j) : EReal) = argG m c (ix1 j) := by
  blk_simp [iblk, idx t]
  rw [show ((win0_3.blk t).view.emb (ix2 0 j)) = ix2 0 j by blk_ext [idx t]]
  entry_read
  pointwise

theorem kv_at (t : Fin cfg0.N) (k : Fin 1024) (q : Fin 1024) :
    (iblk m c 5 t (ix2 q k) : EReal) = if h : q.val < 512 then argW m c (ix2 k ⟨3600 + q.val, by omega⟩)
      else argW m c (ix2 k ⟨4112 + (q.val - 512), by omega⟩) := by
  blk_simp [iblk, idx t]
  rw [show ((win0_5.blk t).view.emb (ix2 q k)) = ix2 q k by blk_ext [idx t]]
  entry_read
  pointwise

theorem key_at (t : Fin cfg0.N) (k : Fin 1024) (j : Fin 512) :
    (iblk m c 5 t (ix2 ⟨0 + j.val, by omega⟩ k) : EReal) = argW m c (ix2 k ⟨3600 + j.val, by omega⟩) := by
  rw [kv_at]
  dsimp only
  rw [dif_pos (by omega)]
  exact congrArg (fun q => argW m c (ix2 k q)) (Fin.ext (by show 3600 + (0 + j.val) = 3600 + j.val; omega))

theorem value_at (t : Fin cfg0.N) (k : Fin 1024) (j : Fin 512) :
    (iblk m c 5 t (ix2 ⟨512 + j.val, by omega⟩ k) : EReal) = argW m c (ix2 k ⟨4112 + j.val, by omega⟩) := by
  rw [kv_at]
  dsimp only
  rw [dif_neg (by omega)]
  exact congrArg (fun q => argW m c (ix2 k q)) (Fin.ext (by show 4112 + (512 + j.val - 512) = 4112 + j.val; omega))

/-- The narrow pieces of the weights, side by side. -/
def narrow (w : FVec Ideal S1024x7704 .f32) : FVec Ideal S1024x128 .f32 :=
  concatenate S1024x128 1 [⟨S1024x4, (extractStridedSlice S1024x4 ![0, 1024] w slices_S1024x7704_S1024x4_0_1024 : FVec Ideal S1024x4 .f32)⟩,
    ⟨S1024x4, (extractStridedSlice S1024x4 ![0, 1028] w slices_S1024x7704_S1024x4_0_1028 : FVec Ideal S1024x4 .f32)⟩,
    ⟨S1024x8, (extractStridedSlice S1024x8 ![0, 3080] w slices_S1024x7704_S1024x8_0_3080 : FVec Ideal S1024x8 .f32)⟩,
    ⟨S1024x8, (extractStridedSlice S1024x8 ![0, 4624] w slices_S1024x7704_S1024x8_0_4624 : FVec Ideal S1024x8 .f32)⟩,
    ⟨S1024x4, (extractStridedSlice S1024x4 ![0, 1028] w slices_S1024x7704_S1024x4_0_1028 : FVec Ideal S1024x4 .f32)⟩,
    ⟨S1024x4, (broadcastInDim S1024x4 ![] bcast_S_S1024x4 (constant S_ .f32 0x00000000#32) : FVec Ideal S1024x4 .f32)⟩,
    ⟨S1024x8, (extractStridedSlice S1024x8 ![0, 3080] w slices_S1024x7704_S1024x8_0_3080 : FVec Ideal S1024x8 .f32)⟩,
    ⟨S1024x8, (extractStridedSlice S1024x8 ![0, 4624] w slices_S1024x7704_S1024x8_0_4624 : FVec Ideal S1024x8 .f32)⟩,
    ⟨S1024x80, (broadcastInDim S1024x80 ![] bcast_S_S1024x80 (constant S_ .f32 0x00000000#32) : FVec Ideal S1024x80 .f32)⟩] concatenates_S1024x4_S1024x4_S1024x8_S1024x8_S1024x4_S1024x4_S1024x8_S1024x8_S1024x80_S1024x128_d1

/-- The weights as the call takes them. -/
def packed (w : FVec Ideal S1024x7704 .f32) : FVec Ideal S1024x3712 .f32 :=
  concatenate S1024x3712 1 [⟨S1024x256, (extractStridedSlice S1024x256 ![0, 0] w slices_S1024x7704_S1024x256_0_0 : FVec Ideal S1024x256 .f32)⟩,
    ⟨S1024x256, (extractStridedSlice S1024x256 ![0, 256] w slices_S1024x7704_S1024x256_0_256 : FVec Ideal S1024x256 .f32)⟩,
    ⟨S1024x512, (extractStridedSlice S1024x512 ![0, 512] w slices_S1024x7704_S1024x512_0_512 : FVec Ideal S1024x512 .f32)⟩,
    ⟨S1024x512, (extractStridedSlice S1024x512 ![0, 1032] w slices_S1024x7704_S1024x512_0_1032 : FVec Ideal S1024x512 .f32)⟩,
    ⟨S1024x512, (extractStridedSlice S1024x512 ![0, 1544] w slices_S1024x7704_S1024x512_0_1544 : FVec Ideal S1024x512 .f32)⟩,
    ⟨S1024x1024, (extractStridedSlice S1024x1024 ![0, 2056] w slices_S1024x7704_S1024x1024_0_2056 : FVec Ideal S1024x1024 .f32)⟩,
    ⟨S1024x512, (extractStridedSlice S1024x512 ![0, 3088] w slices_S1024x7704_S1024x512_0_3088 : FVec Ideal S1024x512 .f32)⟩,
    ⟨S1024x128, (narrow w : FVec Ideal S1024x128 .f32)⟩] concatenates_S1024x256_S1024x256_S1024x512_S1024x512_S1024x512_S1024x1024_S1024x512_S1024x128_S1024x3712_d1

theorem narrow_apply (w : FVec Ideal S1024x7704 .f32) (k : Fin 1024) (j : Fin 128) :
    (narrow w (ix2 k j) : EReal) = lanes (fun q => w (ix2 k q)) j := by
  pointwise [narrow]
  rfl

theorem packed_entry : (V m c main_v19 : FVec Ideal S1024x3712 .bf16) = truncf .bf16 (packed (argW m c)) bitsLt_bf16_f32 := by
  show StableHlo.after _ _ _ = _
  simp only [StableHlo.after_cons, StableHlo.after_nil]
  after_results_simp <;> (try dsimp only [Matrix.cons_val]) <;> (try after_results_simp) <;> rfl

theorem w_at (t : Fin cfg0.N) (k : Fin 1024) (q : Fin 3712) :
    (iblk m c 4 t (ix2 k q) : EReal) = packed (argW m c) (ix2 k q) := by
  blk_simp [iblk, idx t]
  rw [show ((win0_4.blk t).view.emb (ix2 k q)) = ix2 k q by blk_ext [idx t]]
  exact congrFun (packed_entry m c) (ix2 k q)

theorem packed_apply (w : FVec Ideal S1024x7704 .f32) (k : Fin 1024) (q : Fin 3712) :
    (packed w (ix2 k q) : EReal) =
      if h : q.val < 256 then w (ix2 k ⟨q.val, by omega⟩)
      else if h : q.val - 256 < 256 then w (ix2 k ⟨256 + (q.val - 256), by omega⟩)
      else if h : q.val - 256 - 256 < 512 then w (ix2 k ⟨512 + (q.val - 256 - 256), by omega⟩)
      else if h : q.val - 256 - 256 - 512 < 512 then w (ix2 k ⟨1032 + (q.val - 256 - 256 - 512), by omega⟩)
      else if h : q.val - 256 - 256 - 512 - 512 < 512 then w (ix2 k ⟨1544 + (q.val - 256 - 256 - 512 - 512), by omega⟩)
      else if h : q.val - 256 - 256 - 512 - 512 - 512 < 1024 then w (ix2 k ⟨2056 + (q.val - 256 - 256 - 512 - 512 - 512), by omega⟩)
      else if h : q.val - 256 - 256 - 512 - 512 - 512 - 1024 < 512 then w (ix2 k ⟨3088 + (q.val - 256 - 256 - 512 - 512 - 512 - 1024), by omega⟩)
      else lanes (fun q => w (ix2 k q)) ⟨q.val - 256 - 256 - 512 - 512 - 512 - 1024 - 512, by omega⟩ := by
  pointwise [packed, narrow_apply]

theorem packed_mq (w : FVec Ideal S1024x7704 .f32) (k : Fin 1024) (j : Fin 256) :
    (packed w (ix2 k ⟨0 + j.val, by omega⟩) : EReal) = w (ix2 k ⟨0 + j.val, by omega⟩) := by
  rw [packed_apply]
  dsimp only
  rw [dif_pos (by omega)]

theorem packed_mk (w : FVec Ideal S1024x7704 .f32) (k : Fin 1024) (j : Fin 256) :
    (packed w (ix2 k ⟨256 + j.val, by omega⟩) : EReal) = w (ix2 k ⟨256 + j.val, by omega⟩) := by
  rw [packed_apply]
  dsimp only
  rw [dif_neg (by omega), dif_pos (by omega)]
  exact congrArg (fun q => w (ix2 k q)) (Fin.ext (by dsimp only; omega))

theorem packed_mv (w : FVec Ideal S1024x7704 .f32) (k : Fin 1024) (j : Fin 512) :
    (packed w (ix2 k ⟨512 + j.val, by omega⟩) : EReal) = w (ix2 k ⟨512 + j.val, by omega⟩) := by
  rw [packed_apply]
  dsimp only
  rw [dif_neg (by omega), dif_neg (by omega), dif_pos (by omega)]
  exact congrArg (fun q => w (ix2 k q)) (Fin.ext (by dsimp only; omega))

theorem packed_mo (w : FVec Ideal S1024x7704 .f32) (k : Fin 1024) (j : Fin 512) :
    (packed w (ix2 k ⟨1024 + j.val, by omega⟩) : EReal) = w (ix2 k ⟨1032 + j.val, by omega⟩) := by
  rw [packed_apply]
  dsimp only
  rw [dif_neg (by omega), dif_neg (by omega), dif_neg (by omega), dif_pos (by omega)]
  exact congrArg (fun q => w (ix2 k q)) (Fin.ext (by dsimp only; omega))

theorem packed_sz (w : FVec Ideal S1024x7704 .f32) (k : Fin 1024) (j : Fin 512) :
    (packed w (ix2 k ⟨1536 + j.val, by omega⟩) : EReal) = w (ix2 k ⟨1544 + j.val, by omega⟩) := by
  rw [packed_apply]
  dsimp only
  rw [dif_neg (by omega), dif_neg (by omega), dif_neg (by omega), dif_neg (by omega), dif_pos (by omega)]
  exact congrArg (fun q => w (ix2 k q)) (Fin.ext (by dsimp only; omega))

theorem packed_sxbc (w : FVec Ideal S1024x7704 .f32) (k : Fin 1024) (j : Fin 1024) :
    (packed w (ix2 k ⟨2048 + j.val, by omega⟩) : EReal) = w (ix2 k ⟨2056 + j.val, by omega⟩) := by
  rw [packed_apply]
  dsimp only
  rw [dif_neg (by omega), dif_neg (by omega), dif_neg (by omega), dif_neg (by omega), dif_neg (by omega), dif_pos (by omega)]
  exact congrArg (fun q => w (ix2 k q)) (Fin.ext (by dsimp only; omega))

theorem packed_fq (w : FVec Ideal S1024x7704 .f32) (k : Fin 1024) (j : Fin 512) :
    (packed w (ix2 k ⟨3072 + j.val, by omega⟩) : EReal) = w (ix2 k ⟨3088 + j.val, by omega⟩) := by
  rw [packed_apply]
  dsimp only
  rw [dif_neg (by omega), dif_neg (by omega), dif_neg (by omega), dif_neg (by omega), dif_neg (by omega), dif_neg (by omega), dif_pos (by omega)]
  exact congrArg (fun q => w (ix2 k q)) (Fin.ext (by dsimp only; omega))

theorem packed_small (w : FVec Ideal S1024x7704 .f32) (k : Fin 1024) (j : Fin 128) :
    (packed w (ix2 k ⟨3584 + j.val, by omega⟩) : EReal) = lanes (fun q => w (ix2 k q)) j := by
  rw [packed_apply]
  dsimp only
  rw [dif_neg (by omega), dif_neg (by omega), dif_neg (by omega), dif_neg (by omega), dif_neg (by omega), dif_neg (by omega), dif_neg (by omega)]
  exact congrArg (lanes _) (Fin.ext (by dsimp only; omega))

end Cert.InprojIdeal.Value

end
-- ==== Proof.InprojFinal.lean ====
/- The in-projection: what the call stores is the reference's results of the same arguments. -/
module

public import proofs.«01_k».proof.Proof.InprojBody
public import proofs.«01_k».proof.Proof.InprojCols

@[expose] public section

set_option maxRecDepth 16384

noncomputable section

open Idealize.ShloMosaic Idealize.ShloMosaic.TcCoe Idealize.ShloMosaic.Tactic

namespace Cert.InprojIdeal.Value

open Cert.InprojIdeal Cert.InprojIdeal.Gen Cert.Mixer

variable (m : (ℓ : Loc nD τ sig) → Buf (Elt Ideal) ℓ) (c : Dev nD)

theorem hid_at (t : Fin cfg0.N) (r : Fin 256) :
    hid m c t r = Cert.InprojReferenceIdeal.Ref.row (argX m c) (argA m c) (argG m c) (bat t) (pos t r) := by
  unfold hid Cert.InprojReferenceIdeal.Ref.row
  simp only [x_at, shift_at, scale_at, pre_at]

theorem row_at (t : Fin cfg0.N) (r : Fin 256) :
    hid m c t r = Cert.InprojReferenceIdeal.Ref.row (argX m c) (argA m c) (argG m c)
      ⟨(line t r).val / 8192, by omega⟩ ⟨(line t r).val % 8192, by omega⟩ := by
  have hN := points
  rw [hid_at]
  exact congrArg₂ (Cert.InprojReferenceIdeal.Ref.row (argX m c) (argA m c) (argG m c))
    (Fin.ext (by show t.val / 32 = (256 * t.val + r.val) / 8192; omega))
    (Fin.ext (by show 256 * (t.val % 32) + r.val = (256 * t.val + r.val) % 8192; omega))

theorem mq_final : (dats m 0 c).arrAt 6 cfg0.N
    = (Cert.InprojReferenceIdeal.Ref.mq (argX m c) (argA m c) (argG m c) (argW m c) : FVec Ideal S32768x256 .f32) := by
  refine (dats m 0 c).arrAt_eq_of_covers 6 _ (by decide +kernel) fun t _ y => ?_
  blk_simp
  rw [after0_6]
  idx_vars y
  have e : ((View.whole main_v25_0).slice (win0_6.rect t)).emb (ix2 y0 y1) = ix2 (line t y0) y1 := by blk_ext [idx t]
  rw [e]
  refine (mq_out m c t y0 y1).trans (Eq.trans ?_ (Cert.InprojReferenceIdeal.Ref.mq_apply _ _ _ _ (line t y0) y1).symm)
  refine congrArg (· * _) ?_
  refine congrArg₂ col (row_at m c t y0) (funext fun k => ?_)
  rw [w_at]
  exact packed_mq _ k y1

theorem mk_final : (dats m 0 c).arrAt 7 cfg0.N
    = (Cert.InprojReferenceIdeal.Ref.mk (argX m c) (argA m c) (argG m c) (argW m c) : FVec Ideal S32768x256 .f32) := by
  refine (dats m 0 c).arrAt_eq_of_covers 7 _ (by decide +kernel) fun t _ y => ?_
  blk_simp
  rw [after0_7]
  idx_vars y
  have e : ((View.whole main_v25_1).slice (win0_7.rect t)).emb (ix2 y0 y1) = ix2 (line t y0) y1 := by blk_ext [idx t]
  rw [e]
  refine (mk_out m c t y0 y1).trans (Eq.trans ?_ (Cert.InprojReferenceIdeal.Ref.mk_apply _ _ _ _ (line t y0) y1).symm)
  refine congrArg₂ col (row_at m c t y0) (funext fun k => ?_)
  rw [w_at]
  exact packed_mk _ k y1

theorem mv_final : (dats m 0 c).arrAt 8 cfg0.N
    = (Cert.InprojReferenceIdeal.Ref.mv (argX m c) (argA m c) (argG m c) (argW m c) : FVec Ideal S32768x512 .f32) := by
  refine (dats m 0 c).arrAt_eq_of_covers 8 _ (by decide +kernel) fun t _ y => ?_
  blk_simp
  rw [after0_8]
  idx_vars y
  have e : ((View.whole main_v25_2).slice (win0_8.rect t)).emb (ix2 y0 y1) = ix2 (line t y0) y1 := by blk_ext [idx t]
  rw [e]
  refine (mv_out m c t y0 y1).trans (Eq.trans ?_ (Cert.InprojReferenceIdeal.Ref.mv_apply _ _ _ _ (line t y0) y1).symm)
  refine congrArg₂ col (row_at m c t y0) (funext fun k => ?_)
  rw [w_at]
  exact packed_mv _ k y1

theorem mo_final : (dats m 0 c).arrAt 9 cfg0.N
    = (Cert.InprojReferenceIdeal.Ref.mo (argX m c) (argA m c) (argG m c) (argW m c) : FVec Ideal S32768x512 .f32) := by
  refine (dats m 0 c).arrAt_eq_of_covers 9 _ (by decide +kernel) fun t _ y => ?_
  blk_simp
  rw [after0_9]
  idx_vars y
  have e : ((View.whole main_v25_3).slice (win0_9.rect t)).emb (ix2 y0 y1) = ix2 (line t y0) y1 := by blk_ext [idx t]
  rw [e]
  refine (mo_out m c t y0 y1).trans (Eq.trans ?_ (Cert.InprojReferenceIdeal.Ref.mo_apply _ _ _ _ (line t y0) y1).symm)
  refine congrArg₂ col (row_at m c t y0) (funext fun k => ?_)
  rw [w_at]
  exact packed_mo _ k y1

theorem sz_final : (dats m 0 c).arrAt 10 cfg0.N
    = (Cert.InprojReferenceIdeal.Ref.sz (argX m c) (argA m c) (argG m c) (argW m c) : FVec Ideal S32768x512 .f32) := by
  refine (dats m 0 c).arrAt_eq_of_covers 10 _ (by decide +kernel) fun t _ y => ?_
  blk_simp
  rw [after0_10]
  idx_vars y
  have e : ((View.whole main_v25_4).slice (win0_10.rect t)).emb (ix2 y0 y1) = ix2 (line t y0) y1 := by blk_ext [idx t]
  rw [e]
  refine (sz_out m c t y0 y1).trans (Eq.trans ?_ (Cert.InprojReferenceIdeal.Ref.sz_apply _ _ _ _ (line t y0) y1).symm)
  refine congrArg₂ col (row_at m c t y0) (funext fun k => ?_)
  rw [w_at]
  exact packed_sz _ k y1

theorem sxbc_final : (dats m 0 c).arrAt 11 cfg0.N
    = (Cert.InprojReferenceIdeal.Ref.sxbc (argX m c) (argA m c) (argG m c) (argW m c) : FVec Ideal S32768x1024 .f32) := by
  refine (dats m 0 c).arrAt_eq_of_covers 11 _ (by decide +kernel) fun t _ y => ?_
  blk_simp
  rw [after0_11]
  idx_vars y
  have e : ((View.whole main_v25_5).slice (win0_11.rect t)).emb (ix2 y0 y1) = ix2 (line t y0) y1 := by blk_ext [idx t]
  rw [e]
  refine (sxbc_out m c t y0 y1).trans (Eq.trans ?_ (Cert.InprojReferenceIdeal.Ref.sxbc_apply _ _ _ _ (line t y0) y1).symm)
  refine congrArg₂ col (row_at m c t y0) (funext fun k => ?_)
  rw [w_at]
  exact packed_sxbc _ k y1

theorem fq_final : (dats m 0 c).arrAt 12 cfg0.N
    = (Cert.InprojReferenceIdeal.Ref.fq (argX m c) (argA m c) (argG m c) (argW m c) : FVec Ideal S32768x512 .bf16) := by
  refine (dats m 0 c).arrAt_eq_of_covers 12 _ (by decide +kernel) fun t _ y => ?_
  blk_simp
  rw [after0_12]
  idx_vars y
  have e : ((View.whole main_v25_6).slice (win0_12.rect t)).emb (ix2 y0 y1) = ix2 (line t y0) y1 := by blk_ext [idx t]
  rw [e]
  refine (fq_out m c t y0 y1).trans (Eq.trans ?_ (Cert.InprojReferenceIdeal.Ref.fq_apply _ _ _ _ (line t y0) y1).symm)
  refine congrArg (· * _) ?_
  refine congrArg₂ col (row_at m c t y0) (funext fun k => ?_)
  rw [w_at]
  exact packed_fq _ k y1

theorem small_final : (dats m 0 c).arrAt 13 cfg0.N
    = (Cert.InprojReferenceIdeal.Ref.small (argX m c) (argA m c) (argG m c) (argW m c) : FVec Ideal S32768x128 .f32) := by
  refine (dats m 0 c).arrAt_eq_of_covers 13 _ (by decide +kernel) fun t _ y => ?_
  blk_simp
  rw [after0_13]
  idx_vars y
  have e : ((View.whole main_v25_7).slice (win0_13.rect t)).emb (ix2 y0 y1) = ix2 (line t y0) y1 := by blk_ext [idx t]
  rw [e]
  refine (small_out m c t y0 y1).trans (Eq.trans ?_ (Cert.InprojReferenceIdeal.Ref.small_apply _ _ _ _ (line t y0) y1).symm)
  rw [← col_lanes]
  refine congrArg₂ col (row_at m c t y0) (funext fun k => ?_)
  rw [w_at]
  exact packed_small _ k y1

theorem small_t_final : (dats m 0 c).arrAt 14 cfg0.N
    = (Cert.InprojReferenceIdeal.Ref.small_t (argX m c) (argA m c) (argG m c) (argW m c) : FVec Ideal S128x32768 .f32) := by
  refine (dats m 0 c).arrAt_eq_of_covers 14 _ (by decide +kernel) fun t _ y => ?_
  blk_simp
  rw [after0_14]
  idx_vars y
  have e : ((View.whole main_v25_8).slice (win0_14.rect t)).emb (ix2 y0 y1) = ix2 y0 (line t y1) := by blk_ext [idx t]
  rw [e]
  refine (small_t_out m c t y1 y0).trans (Eq.trans ?_ (Cert.InprojReferenceIdeal.Ref.small_t_apply _ _ _ _ (line t y1) y0).symm)
  refine Eq.trans ?_ (Cert.InprojReferenceIdeal.Ref.small_apply _ _ _ _ (line t y1) y0).symm
  rw [← col_lanes]
  refine congrArg₂ col (row_at m c t y1) (funext fun k => ?_)
  rw [w_at]
  exact packed_small _ k y0

theorem fk_final : (dats m 0 c).arrAt 15 cfg0.N
    = (Cert.InprojReferenceIdeal.Ref.fk (argX m c) (argA m c) (argG m c) (argW m c) : FVec Ideal S4x512x8192 .f32) := by
  refine (dats m 0 c).arrAt_eq_of_covers 15 _ (by decide +kernel) fun t _ y => ?_
  blk_simp
  rw [after0_15]
  idx_vars y
  obtain rfl : y0 = 0 := Subsingleton.elim _ _
  have e : ((View.whole main_v25_9).slice (win0_15.rect t)).emb (ix3 0 y1 y2) = ix3 (bat t) y1 (pos t y2) := by blk_ext [idx t]
  rw [e]
  refine (fk_out m c t y2 y1).trans (Eq.trans ?_ (Cert.InprojReferenceIdeal.Ref.fk_apply _ _ _ _ (bat t) (pos t y2) y1).symm)
  exact congrArg₂ col (hid_at m c t y2) (funext fun k => key_at m c t k y1)

theorem fv_final : (dats m 0 c).arrAt 16 cfg0.N
    = (Cert.InprojReferenceIdeal.Ref.fv (argX m c) (argA m c) (argG m c) (argW m c) : FVec Ideal S4x512x8192 .f32) := by
  refine (dats m 0 c).arrAt_eq_of_covers 16 _ (by decide +kernel) fun t _ y => ?_
  blk_simp
  rw [after0_16]
  idx_vars y
  obtain rfl : y0 = 0 := Subsingleton.elim _ _
  have e : ((View.whole main_v25_10).slice (win0_16.rect t)).emb (ix3 0 y1 y2) = ix3 (bat t) y1 (pos t y2) := by blk_ext [idx t]
  rw [e]
  refine (fv_out m c t y2 y1).trans (Eq.trans ?_ (Cert.InprojReferenceIdeal.Ref.fv_apply _ _ _ _ (bat t) (pos t y2) y1).symm)
  exact congrArg₂ col (hid_at m c t y2) (funext fun k => value_at m c t k y1)

end Cert.InprojIdeal.Value

end
-- ==== Proof.InprojClaims.lean ====
/- The claims of the in-projection. -/
module

public import proofs.«01_k».proof.Defs
public import proofs.«01_k».proof.Proof.Gen.Inproj
public import proofs.«01_k».proof.Proof.InprojFinal
public import Idealize.ShloMosaic.PureOps.BitExact
public import Idealize.ShloMosaic.Lib.Claim

@[expose] public section

noncomputable section

namespace Cert.Proof

open Idealize.ShloMosaic Idealize.SL.Sem

set_option maxHeartbeats 4000000 in
theorem inproj_bodies : Cert.Inproj.defs₀ (F := Bits) = Cert.InprojIdeal.defs₀ (F := Bits) := by
  funext p
  match p with
  | .tc =>
    funext l a
    match l, a with
    | 0, (t, s) => rfl
    | ⟨_ + 1, h⟩, _ => exact absurd h (Nat.not_lt.2 (Nat.le_add_left _ _))
  | .scScalar _ => rfl
  | .scVector _ _ => rfl

theorem inproj_defs : Cert.Inproj.defs (F := Bits) = Cert.InprojIdeal.defs (F := Bits) :=
  congrArg (fun D => Pipeline.defs (Cert.InprojIdeal.pcfgs (F := Bits)) D) inproj_bodies

set_option maxHeartbeats 4000000 in
theorem inproj_frame : Cert.quiescent_Inproj := by
  intro m ρ _
  have h := Cert.InprojIdeal.Gen.frame (F := Bits) m ρ
  rw [← inproj_defs] at h
  exact h

theorem inproj_frame_ideal : Cert.quiescent_InprojIdeal := fun m ρ _ => Cert.InprojIdeal.Gen.frame (F := Ideal) m ρ

set_option maxHeartbeats 1600000 in
theorem inproj_frame_reference : Cert.quiescent_InprojReferenceIdeal := by
  intro m g _
  hlo_run
  · exact fun _ => by and_intros <;> trivial
  exact sem_eq_zero_of_no_sems (by decide : Cert.InprojReferenceIdeal.sig.nSem + Cert.InprojReferenceIdeal.sig.nDmaSem = 0) _

set_option maxHeartbeats 1600000 in
theorem inproj_values : Cert.algebraic_InprojIdeal_InprojReferenceIdeal := by
  pair_intro
  · run_from (Cert.InprojIdeal.Value.run_blocks) m g
  · run_from (Cert.InprojReferenceIdeal.Value.run) m' g'
    · first
        | exact (Cert.InprojIdeal.Value.mq_final m c).symm
        | (obtain ⟨h0, h1, h2, h3⟩ := hagree c
           exact (Cert.InprojReferenceIdeal.Ref.mq_of m' c _ _ _ _ h0 h1 h2 h3).trans (Cert.InprojIdeal.Value.mq_final m c).symm)
    · first
        | exact (Cert.InprojIdeal.Value.mk_final m c).symm
        | (obtain ⟨h0, h1, h2, h3⟩ := hagree c
           exact (Cert.InprojReferenceIdeal.Ref.mk_of m' c _ _ _ _ h0 h1 h2 h3).trans (Cert.InprojIdeal.Value.mk_final m c).symm)
    · first
        | exact (Cert.InprojIdeal.Value.mv_final m c).symm
        | (obtain ⟨h0, h1, h2, h3⟩ := hagree c
           exact (Cert.InprojReferenceIdeal.Ref.mv_of m' c _ _ _ _ h0 h1 h2 h3).trans (Cert.InprojIdeal.Value.mv_final m c).symm)
    · first
        | exact (Cert.InprojIdeal.Value.mo_final m c).symm
        | (obtain ⟨h0, h1, h2, h3⟩ := hagree c
           exact (Cert.InprojReferenceIdeal.Ref.mo_of m' c _ _ _ _ h0 h1 h2 h3).trans (Cert.InprojIdeal.Value.mo_final m c).symm)
    · first
        | exact (Cert.InprojIdeal.Value.sz_final m c).symm
        | (obtain ⟨h0, h1, h2, h3⟩ := hagree c
           exact (Cert.InprojReferenceIdeal.Ref.sz_of m' c _ _ _ _ h0 h1 h2 h3).trans (Cert.InprojIdeal.Value.sz_final m c).symm)
    · first
        | exact (Cert.InprojIdeal.Value.sxbc_final m c).symm
        | (obtain ⟨h0, h1, h2, h3⟩ := hagree c
           exact (Cert.InprojReferenceIdeal.Ref.sxbc_of m' c _ _ _ _ h0 h1 h2 h3).trans (Cert.InprojIdeal.Value.sxbc_final m c).symm)
    · first
        | exact (Cert.InprojIdeal.Value.fq_final m c).symm
        | (obtain ⟨h0, h1, h2, h3⟩ := hagree c
           exact (Cert.InprojReferenceIdeal.Ref.fq_of m' c _ _ _ _ h0 h1 h2 h3).trans (Cert.InprojIdeal.Value.fq_final m c).symm)
    · first
        | exact (Cert.InprojIdeal.Value.small_final m c).symm
        | (obtain ⟨h0, h1, h2, h3⟩ := hagree c
           exact (Cert.InprojReferenceIdeal.Ref.small_of m' c _ _ _ _ h0 h1 h2 h3).trans (Cert.InprojIdeal.Value.small_final m c).symm)
    · first
        | exact (Cert.InprojIdeal.Value.small_t_final m c).symm
        | (obtain ⟨h0, h1, h2, h3⟩ := hagree c
           exact (Cert.InprojReferenceIdeal.Ref.small_t_of m' c _ _ _ _ h0 h1 h2 h3).trans (Cert.InprojIdeal.Value.small_t_final m c).symm)
    · first
        | exact (Cert.InprojIdeal.Value.fk_final m c).symm
        | (obtain ⟨h0, h1, h2, h3⟩ := hagree c
           exact (Cert.InprojReferenceIdeal.Ref.fk_of m' c _ _ _ _ h0 h1 h2 h3).trans (Cert.InprojIdeal.Value.fk_final m c).symm)
    · first
        | exact (Cert.InprojIdeal.Value.fv_final m c).symm
        | (obtain ⟨h0, h1, h2, h3⟩ := hagree c
           exact (Cert.InprojReferenceIdeal.Ref.fv_of m' c _ _ _ _ h0 h1 h2 h3).trans (Cert.InprojIdeal.Value.fv_final m c).symm)

end Cert.Proof

end
-- ==== Proof.Online.lean ====
/- Softmax over a growing prefix of the keys: the greatest score, the sum of weights and the weighted sum of the
   first `N` keys, what one more block of keys does to them, and what their quotient is. -/
module

public import Idealize.ShloMosaic.Lib.Pointwise

@[expose] public section

noncomputable section

namespace Cert.Online

open Idealize.ShloMosaic

/-- The greatest of the first `N` scores. -/
def top (s : ℕ → EReal) (N : ℕ) : EReal := (Finset.range N).sup s
/-- The weighted sum of the first `N` values. -/
def num (s v : ℕ → EReal) (N : ℕ) : EReal := ∑ j ∈ Finset.range N, Ideal.exp (s j - top s N) * v j
/-- The sum of the first `N` weights. -/
def den (s : ℕ → EReal) (N : ℕ) : EReal := num s (fun _ => 1) N

/-- No score is plus infinity, and the first is not minus infinity. -/
def Tame (s : ℕ → EReal) : Prop := (∀ j, s j ≠ ⊤) ∧ s 0 ≠ ⊥

theorem top_zero (s : ℕ → EReal) : top s 0 = ⊥ := by simp [top]
theorem num_zero (s v : ℕ → EReal) : num s v 0 = 0 := by simp [num]
theorem den_zero (s : ℕ → EReal) : den s 0 = 0 := num_zero s _

theorem top_real {s : ℕ → EReal} (hs : Tame s) {N : ℕ} (hN : 0 < N) : ∃ a : ℝ, top s N = (a : EReal) := by
  have h1 : top s N ≠ ⊤ := by
    have : top s N < ⊤ := (Finset.sup_lt_iff (bot_lt_top)).2 fun j _ => lt_top_iff_ne_top.2 (hs.1 j)
    exact this.ne
  have h2 : top s N ≠ ⊥ := by
    have : s 0 ≤ top s N := Finset.le_sup (f := s) (Finset.mem_range.2 hN)
    intro h
    rw [h] at this
    exact hs.2 (le_bot_iff.1 this)
  exact ⟨(top s N).toReal, (EReal.coe_toReal h1 h2).symm⟩

theorem top_add (s : ℕ → EReal) (N W : ℕ) :
    top s (N + W) = max (top s N) (Finset.univ.fold max ⊥ fun c : Fin W => s (N + c.val)) := by
  have h : (Finset.univ.fold max ⊥ fun c : Fin W => s (N + c.val)) = Finset.univ.sup fun c : Fin W => s (N + c.val) := rfl
  rw [h]
  apply le_antisymm
  · refine Finset.sup_le fun j hj => ?_
    rw [Finset.mem_range] at hj
    by_cases hjN : j < N
    · exact le_max_of_le_left (Finset.le_sup (f := s) (Finset.mem_range.2 hjN))
    · refine le_max_of_le_right ?_
      have := Finset.le_sup (f := fun c : Fin W => s (N + c.val)) (Finset.mem_univ (⟨j - N, by omega⟩ : Fin W))
      simpa [Nat.add_sub_cancel' (not_lt.1 hjN)] using this
  · refine max_le (Finset.sup_mono (Finset.range_mono (by omega))) (Finset.sup_le fun c _ => ?_)
    exact Finset.le_sup (f := s) (Finset.mem_range.2 (by omega))

theorem exp_nonneg_real {x : EReal} (h : x ≠ ⊤) : ∃ e : ℝ, 0 ≤ e ∧ Ideal.exp x = (e : EReal) := by
  induction x with
  | bot => exact ⟨0, le_refl _, by simp⟩
  | coe x => exact ⟨Real.exp x, (Real.exp_pos x).le, by simp⟩
  | top => exact absurd rfl h

theorem exp_chain {x : EReal} (h : x ≠ ⊤) (a b : ℝ) :
    Ideal.exp ((a : EReal) - b) * Ideal.exp (x - a) = Ideal.exp (x - b) := by
  induction x with
  | bot => simp
  | coe x =>
    rw [← EReal.coe_sub, ← EReal.coe_sub, ← EReal.coe_sub, Ideal.exp_coe, Ideal.exp_coe, Ideal.exp_coe, ← EReal.coe_mul,
      ← Real.exp_add]
    congr 2
    ring
  | top => exact absurd rfl h

theorem mul_sum_real {ι : Type} (S : Finset ι) (f : ι → EReal) {e : ℝ} (he : 0 ≤ e) :
    (e : EReal) * ∑ j ∈ S, f j = ∑ j ∈ S, (e : EReal) * f j := by
  classical
  induction S using Finset.induction_on with
  | empty => simp
  | insert a S ha ih =>
    rw [Finset.sum_insert ha, Finset.sum_insert ha, ← ih,
      EReal.left_distrib_of_nonneg_of_ne_top (by exact_mod_cast he) (EReal.coe_ne_top e)]

theorem num_add {s : ℕ → EReal} (hs : Tame s) (v : ℕ → EReal) (N W : ℕ) (hW : 0 < W) :
    Ideal.exp (top s N - top s (N + W)) * num s v N
      + ∑ c : Fin W, Ideal.exp (s (N + c.val) - top s (N + W)) * v (N + c.val) = num s v (N + W) := by
  have hR : num s v (N + W) = ∑ j ∈ Finset.range N, Ideal.exp (s j - top s (N + W)) * v j
      + ∑ c : Fin W, Ideal.exp (s (N + c.val) - top s (N + W)) * v (N + c.val) := by
    rw [num, Finset.sum_range_add, ← Finset.sum_range (fun c => Ideal.exp (s (N + c) - top s (N + W)) * v (N + c))]
  rw [hR]
  refine congrArg (· + _) ?_
  rcases Nat.eq_zero_or_pos N with rfl | hN
  · simp [num]
  · obtain ⟨a, ha⟩ := top_real hs hN
    obtain ⟨b, hb⟩ := top_real hs (show 0 < N + W by omega)
    rw [num, ha, hb]
    have he : Ideal.exp ((a : EReal) - b) = ((Real.exp (a - b) : ℝ) : EReal) := by
      rw [← EReal.coe_sub, Ideal.exp_coe]
    rw [he, mul_sum_real _ _ (Real.exp_pos _).le, ← he]
    exact Finset.sum_congr rfl fun j _ => by rw [← mul_assoc, exp_chain (hs.1 j)]

theorem den_add {s : ℕ → EReal} (hs : Tame s) (N W : ℕ) (hW : 0 < W) :
    Ideal.exp (top s N - top s (N + W)) * den s N
      + ∑ c : Fin W, Ideal.exp (s (N + c.val) - top s (N + W)) = den s (N + W) := by
  have h := num_add hs (fun _ => 1) N W hW
  simp only [mul_one] at h
  exact h

theorem den_real {s : ℕ → EReal} (hs : Tame s) {N : ℕ} (hN : 0 < N) : ∃ d : ℝ, 0 < d ∧ den s N = (d : EReal) := by
  obtain ⟨a, ha⟩ := top_real hs hN
  have hx : ∀ j, s j - (a : EReal) ≠ ⊤ := fun j => by
    have := hs.1 j
    induction h : s j with
    | bot => simp
    | coe x => rw [← EReal.coe_sub]; exact EReal.coe_ne_top _
    | top => exact absurd h this
  choose e he hx using fun j => exp_nonneg_real (hx j)
  refine ⟨∑ j ∈ Finset.range N, e j, ?_, ?_⟩
  · refine Finset.sum_pos' (fun j _ => he j) ⟨0, Finset.mem_range.2 hN, ?_⟩
    have h0 := hx 0
    obtain ⟨x, hx0⟩ : ∃ x : ℝ, s 0 = (x : EReal) := ⟨(s 0).toReal, (EReal.coe_toReal (hs.1 0) hs.2).symm⟩
    rw [hx0, ← EReal.coe_sub, Ideal.exp_coe] at h0
    have h1 : Real.exp (x - a) = e 0 := by exact_mod_cast h0
    rw [← h1]
    exact Real.exp_pos _
  · rw [den, num, ha]
    simp only [mul_one, hx]
    induction Finset.range N using Finset.induction_on with
    | empty => simp
    | insert b S hb ih => rw [Finset.sum_insert hb, Finset.sum_insert hb, ih, EReal.coe_add]

/-- Keys of score minus infinity weigh nothing. -/
theorem top_mask {s : ℕ → EReal} {N T : ℕ} (hNT : N ≤ T) (hm : ∀ j, N ≤ j → j < T → s j = ⊥) : top s T = top s N := by
  apply le_antisymm
  · refine Finset.sup_le fun j hj => ?_
    rw [Finset.mem_range] at hj
    by_cases h : j < N
    · exact Finset.le_sup (f := s) (Finset.mem_range.2 h)
    · rw [hm j (by omega) hj]; exact bot_le
  · exact Finset.sup_mono (Finset.range_mono hNT)

theorem num_mask {s : ℕ → EReal} (hs : Tame s) (v : ℕ → EReal) {N T : ℕ} (hN : 0 < N) (hNT : N ≤ T)
    (hm : ∀ j, N ≤ j → j < T → s j = ⊥) : num s v T = num s v N := by
  obtain ⟨a, ha⟩ := top_real hs hN
  obtain ⟨W, rfl⟩ := Nat.exists_eq_add_of_le hNT
  rw [num, num, top_mask hNT hm, ha, Finset.sum_range_add]
  have : ∑ c ∈ Finset.range W, Ideal.exp (s (N + c) - a) * v (N + c) = 0 :=
    Finset.sum_eq_zero fun c hc => by
      rw [Finset.mem_range] at hc
      rw [hm (N + c) (by omega) (by omega)]
      simp
  rw [this, add_zero]

/-- The quotient over a prefix is the weighted mean over all the keys, those past the prefix masked. -/
theorem quotient {s : ℕ → EReal} (hs : Tame s) (v : ℕ → EReal) {N T : ℕ} (hN : 0 < N) (hNT : N ≤ T)
    (hm : ∀ j, N ≤ j → j < T → s j = ⊥) :
    Ideal.div (num s v N) (den s N)
      = ∑ j : Fin T, v j.val * Ideal.div (Ideal.exp (s j.val - top s T)) (∑ k : Fin T, Ideal.exp (s k.val - top s T)) := by
  have hT : 0 < T := by omega
  have hL : (∑ k : Fin T, Ideal.exp (s k.val - top s T)) = den s T := by
    rw [den, num, Finset.sum_range]; simp
  rw [hL, ← num_mask hs v hN hNT hm]
  have : den s N = den s T := (num_mask hs _ hN hNT hm).symm
  rw [this]
  obtain ⟨d, hd, hd'⟩ := den_real hs hT
  rw [hd', Ideal.div_coe hd.ne']
  rw [num, mul_comm, mul_sum_real _ _ (by positivity), Finset.sum_range]
  refine Finset.sum_congr rfl fun j _ => ?_
  rw [Ideal.div_coe hd.ne']
  ac_rfl

end Cert.Online

end
-- ==== Proof.Reference.lean ====
/- The reference's result, read at an index: the weighted mean of the values under the softmax of the masked
   scores. -/
module

public import proofs.«01_k».proof.Proof.Gen.ReferenceIdeal
public import proofs.«01_k».proof.Proof.Online
public import Idealize.ShloMosaic.Lib.Pointwise
public import Idealize.ShloMosaic.Lib.WordCmp
public import Idealize.ShloMosaic.Lib.Claim

@[expose] public section

set_option maxRecDepth 16384

noncomputable section

namespace Cert.ReferenceIdeal.Ref

open Cert.ReferenceIdeal Cert.ReferenceIdeal.Gen
open Idealize.ShloMosaic Idealize.SL.Sem

/-- The log-forget gates summed up to each position. -/
def gates (lf : FVec Ideal S4x8192x8 .f32) : FVec Ideal S4x8192x8 .f32 :=
  Host.reduceWindowAdd ![1, 8192, 1] ![1, 1, 1] ![0, 8191, 0] ![0, 0, 0] lf
    (broadcastInDim S_ ![] bcast_S_S_ (constant (F := Ideal) S_ .f32 0x00000000#32))
    reduceWindows_S4x8192x8_S4x8192x8_w1s1p0_0_w8192s1p8191_0_w1s1p0_0 h_S_

def scores (q k : FVec Ideal S4x8192x8x64 .f32) (g : FVec Ideal S4x8192x8 .f32) : FVec Ideal S4x8x8192x8192 .f32 :=
  addf
    (mulf (Host.dotGeneral dot_S4x8192x8x64_S4x8192x8x64_S4x8x8192x8192_3_3_1_1_02_02 none q k)
      (broadcastInDim S4x8x8192x8192 ![] bcast_S_S4x8x8192x8192 (constant (F := Ideal) S_ .f32 0x3E000000#32)))
    (subf
      (broadcastInDim S4x8x8192x8192 ![0, 1, 2, 3] bcast_S4x8x8192x1_S4x8x8192x8192_0_1_2_3
        (broadcastInDim S4x8x8192x1 ![0, 1, 2] bcast_S4x8x8192_S4x8x8192x1_0_1_2
          (transpose S4x8x8192 [0, 2, 1] g transposes_S4x8192x8_S4x8x8192_0_2_1)))
      (broadcastInDim S4x8x8192x8192 ![0, 1, 2, 3] bcast_S4x8x1x8192_S4x8x8192x8192_0_1_2_3
        (broadcastInDim S4x8x1x8192 ![0, 1, 3] bcast_S4x8x8192_S4x8x1x8192_0_1_3
          (transpose S4x8x8192 [0, 2, 1] g transposes_S4x8192x8_S4x8x8192_0_2_1))))

def masked (q k : FVec Ideal S4x8192x8x64 .f32) (g : FVec Ideal S4x8192x8 .f32) : FVec Ideal S4x8x8192x8192 .f32 :=
  select
    (broadcastInDim S4x8x8192x8192 ![2, 3] bcast_S8192x8192_S4x8x8192x8192_2_3
      (cmpi .sle (iotaInDim S8192x8192 32 1) (iotaInDim S8192x8192 32 0)))
    (scores q k g)
    (broadcastInDim S4x8x8192x8192 ![] bcast_S_S4x8x8192x8192 (id (constant (F := Ideal) S_ .f32 0xFF800000#32)))

def weights (s : FVec Ideal S4x8x8192x8192 .f32) : FVec Ideal S4x8x8192x8192 .f32 :=
  Host.exp (subf s
    (broadcastInDim S4x8x8192x8192 ![0, 1, 2, 3] bcast_S4x8x8192x1_S4x8x8192x8192_0_1_2_3
      (broadcastInDim S4x8x8192x1 ![0, 1, 2] bcast_S4x8x8192_S4x8x8192x1_0_1_2
        (maximumf (broadcastInDim S4x8x8192 ![] bcast_S_S4x8x8192 (constant (F := Ideal) S_ .f32 0xFF800000#32))
          (Host.reduce FloatOps.maximumf s (constant (F := Ideal) S_ .f32 0xFF800000#32)
            reducesTo_S4x8x8192x8192_S4x8x8192_d3 h_S_)))))

def mean (w : FVec Ideal S4x8x8192x8192 .f32) (v : FVec Ideal S4x8192x8x64 .f32) : FVec Ideal S4x8x64x8192 .f32 :=
  Host.dotGeneral dot_S4x8192x8x64_S4x8x8192x8192_S4x8x64x8192_1_3_3_2_02_01 none v
    (Host.divf w
      (broadcastInDim S4x8x8192x8192 ![0, 1, 2, 3] bcast_S4x8x8192x1_S4x8x8192x8192_0_1_2_3
        (broadcastInDim S4x8x8192x1 ![0, 1, 2] bcast_S4x8x8192_S4x8x8192x1_0_1_2
          (Host.reduceAdd w (constant (F := Ideal) S_ .f32 0x00000000#32) reducesTo_S4x8x8192x8192_S4x8x8192_d3 h_S_))))

/-- The reference's result, from its queries, keys, values and summed gates. -/
def REF (q k v : FVec Ideal S4x8192x8x64 .f32) (g : FVec Ideal S4x8192x8 .f32) : FVec Ideal S32768x512 .bf16 :=
  truncf .bf16 (shapeCast S32768x512
    (transpose S4x8192x8x64 [0, 3, 1, 2] (mean (weights (masked q k g)) v) transposes_S4x8x64x8192_S4x8192x8x64_0_3_1_2)
    shapeCasts_S4x8192x8x64_S32768x512) bitsLt_bf16_f32

/-- A maximum along the last axis of a rank-four array, read at an index. -/
theorem reduce_max {n0 n1 n2 n3 : ℕ} {u : Shape} (s : FVec Ideal ⟨4, ![n0, n1, n2, n3]⟩ .f32) (e : FVec Ideal u .f32)
    (h : (⟨4, ![n0, n1, n2, n3]⟩ : Shape).ReducesTo [3] ⟨3, ![n0, n1, n2]⟩) (hu : 0 < u.numel) (b : Fin n0) (c : Fin n1)
    (i : Fin n2) :
    Host.reduce (FloatOps.maximumf : Ideal .f32 → Ideal .f32 → Ideal .f32) s e h hu (ix3 b c i)
      = Finset.univ.fold max (e (Shape.Idx.first hu)) fun x : Fin n3 => s (ix4 b c i x) := by
  rw [Ideal.maximumf_eq_max, Host.reduce_eq_fold, Shape.ReducesTo.fold_fiber_r4_a3]
  rfl

theorem minus_inf : Ideal.ofBits .f32 4286578688#32 = ⊥ := by simp [Ideal.ofBits, Ideal.ieee]

theorem masked_apply (q k : FVec Ideal S4x8192x8x64 .f32) (g : FVec Ideal S4x8192x8 .f32) (b : Fin 4) (h : Fin 8)
    (i j : Fin 8192) :
    masked q k g (ix4 b h i j) = if j.val ≤ i.val then
      (∑ x, q (ix4 b i h x) * k (ix4 b j h x)) * Ideal.ofBits .f32 1040187392#32 + (g (ix3 b i h) - g (ix3 b j h))
      else ⊥ := by
  pointwise [masked, scores, id]
  have hle : (IntOp.cmpi .sle (BitVec.ofNat 32 j.val) (BitVec.ofNat 32 i.val) = 1#1) ↔ j.val ≤ i.val := by
    have := i.isLt; have := j.isLt
    word_cmp
  by_cases hji : j.val ≤ i.val
  · rw [if_pos hji, hle.mpr hji]
    exact if_pos rfl
  · rw [if_neg hji, ← minus_inf]
    exact if_neg (mt hle.mp hji)

/-- The exponential of the scores less `R`, the maximum of each row. -/
theorem weights_of_max (s : FVec Ideal S4x8x8192x8192 .f32) (R : FVec Ideal S4x8x8192 .f32) (b : Fin 4) (h : Fin 8)
    (i j : Fin 8192) :
    (Host.exp (subf s
      (broadcastInDim S4x8x8192x8192 ![0, 1, 2, 3] bcast_S4x8x8192x1_S4x8x8192x8192_0_1_2_3
        (broadcastInDim S4x8x8192x1 ![0, 1, 2] bcast_S4x8x8192_S4x8x8192x1_0_1_2
          (maximumf (broadcastInDim S4x8x8192 ![] bcast_S_S4x8x8192 (constant (F := Ideal) S_ .f32 0xFF800000#32))
            R))))) (ix4 b h i j) = Ideal.exp (s (ix4 b h i j) - R (ix3 b h i)) := by
  pointwise
  rw [minus_inf, max_bot_left]

theorem first_minus_inf : constant (F := Ideal) S_ .f32 0xFF800000#32 (Shape.Idx.first h_S_) = ⊥ := minus_inf

theorem weights_apply (s : FVec Ideal S4x8x8192x8192 .f32) (b : Fin 4) (h : Fin 8) (i j : Fin 8192) :
    weights s (ix4 b h i j)
      = Ideal.exp (s (ix4 b h i j) - Finset.univ.fold max ⊥ fun x : Fin 8192 => s (ix4 b h i x)) := by
  have hR := reduce_max s (constant (F := Ideal) S_ .f32 0xFF800000#32) reducesTo_S4x8x8192x8192_S4x8x8192_d3 h_S_ b h i
  rw [first_minus_inf] at hR
  rw [← hR]
  exact weights_of_max s _ b h i j

theorem mean_apply (w : FVec Ideal S4x8x8192x8192 .f32) (v : FVec Ideal S4x8192x8x64 .f32) (b : Fin 4) (h : Fin 8)
    (d : Fin 64) (i : Fin 8192) :
    mean w v (ix4 b h d i) = ∑ x, v (ix4 b x h d) * Ideal.div (w (ix4 b h i x)) (∑ y, w (ix4 b h i y)) := by
  pointwise [mean]

/-- The masked scores of one query as a sequence, −∞ past the last key. -/
def row (q k : FVec Ideal S4x8192x8x64 .f32) (g : FVec Ideal S4x8192x8 .f32) (b : Fin 4) (h : Fin 8) (i : Fin 8192) :
    ℕ → EReal :=
  fun j => if hj : j < 8192 then masked q k g (ix4 b h i ⟨j, hj⟩) else ⊥

theorem row_val (q k : FVec Ideal S4x8192x8x64 .f32) (g : FVec Ideal S4x8192x8 .f32) (b : Fin 4) (h : Fin 8)
    (i j : Fin 8192) : row q k g b h i j.val = masked q k g (ix4 b h i j) := by
  simp only [row, j.isLt, dif_pos]

theorem REF_apply (q k v : FVec Ideal S4x8192x8x64 .f32) (g : FVec Ideal S4x8192x8 .f32) (b : Fin 4) (h : Fin 8)
    (d : Fin 64) (i : Fin 8192) (r : Fin 32768) (c : Fin 512) (hr : r.val = 8192 * b.val + i.val)
    (hc : c.val = 64 * h.val + d.val) :
    REF q k v g (ix2 r c) = ∑ j : Fin 8192, v (ix4 b j h d)
      * Ideal.div (Ideal.exp (row q k g b h i j.val - Online.top (row q k g b h i) 8192))
          (∑ y : Fin 8192, Ideal.exp (row q k g b h i y.val - Online.top (row q k g b h i) 8192)) := by
  have htop : Online.top (row q k g b h i) 8192
      = Finset.univ.fold max ⊥ fun x : Fin 8192 => masked q k g (ix4 b h i x) := by
    have := Online.top_add (row q k g b h i) 0 8192
    simp only [Online.top_zero, Nat.zero_add, max_bot_left, row_val] at this
    exact this
  have e : REF q k v g (ix2 r c) = mean (weights (masked q k g)) v (ix4 b h d i) := by
    have hb : r.val / 8192 = b.val := by omega
    have hi : r.val % 8192 = i.val := by omega
    have hh : c.val / 64 = h.val := by omega
    have hd : c.val % 64 = d.val := by omega
    pointwise [REF]
    congr 1
    simp only [hb, hi, hh, hd]
  rw [e, mean_apply]
  simp only [weights_apply, row_val, htop]

end Cert.ReferenceIdeal.Ref
-- ==== Proof.Finite.lean ====
/- The precondition read at an index: every query, key and log-forget gate is a real number, and so is every sum of
   log-forget gates. -/
module

public import proofs.«01_k».proof.Pre_finite
public import proofs.«01_k».proof.Proof.Reference
public import Idealize.ShloMosaic.Lib.ReduceAll
public import Idealize.ShloMosaic.Lib.Affine

@[expose] public section

set_option maxRecDepth 16384

noncomputable section

namespace Cert.ReferenceIdeal.Ref

open Cert.ReferenceIdeal Cert.ReferenceIdeal.Gen
open Idealize.ShloMosaic Idealize.SL.Sem

/-- Every element of an array is a real number. -/
def Real {s : Shape} (x : FVec Ideal s .f32) : Prop := ∀ i, ∃ a : ℝ, x i = (a : EReal)

theorem plus_inf : Ideal.ofBits .f32 2139095040#32 = ⊤ := by simp [Ideal.ofBits, Ideal.ieee]

theorem real_of_abs {x : EReal} (h : max x (-x) < ⊤) : ∃ a : ℝ, x = (a : EReal) := by
  induction x with
  | bot => simp at h
  | top => simp at h
  | coe a => exact ⟨a, rfl⟩

theorem real_of_all {s : Shape} {axes : List (Fin s.rank)} (x y : FVec Ideal s .f32) (hy : ∀ i, y i = (⊤ : EReal))
    (init : IVec S_ 1) (h : s.ReducesTo axes S_) (hu : 0 < S_.numel)
    (e : Host.reduce IntOp.andi (cmpf .olt (Host.absf x) y) init h hu ix0 = 1#1) : Real x := by
  intro i
  have h1 := Host.reduce_andi_all _ init h hu ix0 e i
  refine real_of_abs ?_
  have h2 : BitVec.ofBool (decide (max (x i) (-(x i)) < y i)) = 1#1 := h1
  rw [hy i] at h2
  by_contra hc
  rw [decide_eq_false hc] at h2
  exact absurd h2 (by decide)

theorem and_one {x y : BitVec 1} (h : IntOp.andi x y = 1#1) : x = 1#1 ∧ y = 1#1 := by
  revert x y
  decide

theorem facts_of_finite [Cert.Pre_finite.Facts] (q k v : FVec Ideal S4x8192x8x64 .f32) (lf : FVec Ideal S4x8192x8 .f32)
    (h : Cert.Pre_finite.fn q k v lf = fun _ => 1#1) : Real q ∧ Real k ∧ Real lf := by
  dsimp only [Cert.Pre_finite.fn] at h
  obtain ⟨h12, h3⟩ := and_one (congrFun h ix0)
  obtain ⟨h1, h2⟩ := and_one h12
  have inf4 (i : S4x8192x8x64.Idx) : broadcastInDim S4x8192x8x64 ![] Cert.Pre_finite.Facts.bcast_S_S4x8192x8x64
      (constant (F := Ideal) S_ .f32 0x7F800000#32) i = (⊤ : EReal) := plus_inf
  have inf3 (i : S4x8192x8.Idx) : broadcastInDim S4x8192x8 ![] Cert.Pre_finite.Facts.bcast_S_S4x8192x8
      (constant (F := Ideal) S_ .f32 0x7F800000#32) i = (⊤ : EReal) := plus_inf
  exact ⟨real_of_all q _ inf4 _ _ _ h1, real_of_all k _ inf4 _ _ _ h2, real_of_all lf _ inf3 _ _ _ h3⟩

theorem foldl_real {α : Type} (f : α → EReal) (hf : ∀ a, ∃ r : ℝ, f a = (r : EReal)) (l : List α) (z : EReal)
    (hz : ∃ r : ℝ, z = (r : EReal)) : ∃ r : ℝ, l.foldl (fun r n => r + f n) z = (r : EReal) := by
  induction l generalizing z with
  | nil => exact hz
  | cons a l ih =>
    obtain ⟨x, hx⟩ := hz
    obtain ⟨y, hy⟩ := hf a
    exact ih _ ⟨x + y, by
      show z + f a = _
      rw [hx, hy, EReal.coe_add]⟩

theorem sum_real {s t u : Shape} (window strides lo hi : Fin s.rank → ℕ) (x : FVec Ideal s .f32) (hx : Real x)
    (init : FVec Ideal u .f32) (h : s.ReduceWindows window strides lo hi t) (hu : 0 < u.numel)
    (hz : ∃ r : ℝ, init (Shape.Idx.first hu) = (r : EReal)) :
    Real (Host.reduceWindowAdd window strides lo hi x init h hu) := by
  intro j
  refine foldl_real _ (fun n => ?_) _ _ hz
  dsimp only
  split_ifs
  · exact hx _
  · exact hz

theorem gates_real (lf : FVec Ideal S4x8192x8 .f32) (h : Real lf) : Real (gates lf) := by
  refine sum_real _ _ _ _ lf h _ _ _ ⟨0, ?_⟩
  pointwise
  rfl

end Cert.ReferenceIdeal.Ref
-- ==== Proof.Steps.lean ====
/- One block of keys, read at an index: the scores, the greatest score so far, and the weighted sums. -/
module

public import proofs.«01_k».proof.Proof.Body
public import proofs.«01_k».proof.Proof.Online
public import Idealize.ShloMosaic.Lib.Pointwise
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

theorem minus_inf : Ideal.ofBits .f32 4286578688#32 = ⊥ := by simp [Ideal.ofBits, Ideal.ieee]

/-- Whether a lane belongs to head 0. -/
theorem low_apply (r : Fin 512) (l : Fin 128) : k0_pay17 (ix2 r l) = BitVec.ofBool (decide (l.val < 64)) := by
  have hl : (IntOp.cmpi .slt (BitVec.ofNat 32 l.val) 64#32 = 1#1) ↔ l.val < 64 := by
    have := l.isLt
    word_cmp
  pointwise [k0_pay17]
  by_cases h : l.val < 64
  · rw [hl.mpr h]; simp [h]
  · simp only [h, decide_false, BitVec.ofBool_false]
    have := mt hl.mp h
    generalize IntOp.cmpi .slt (BitVec.ofNat 32 l.val) 64#32 = x at this ⊢
    revert x; decide

theorem pick_low {α : Type} (l : Fin 128) (x y : α) :
    Scalar.select (BitVec.ofBool (decide (l.val < 64))) x y = if l.val < 64 then x else y := by
  by_cases h : l.val < 64 <;> simp [h, Scalar.select]

theorem causal_apply (r c : Fin 512) : (k0_pay27 (ix2 r c) = 1#1) ↔ c.val ≤ r.val := by
  have := r.isLt; have := c.isLt
  have h : (IntOp.cmpi .sle (BitVec.ofNat 32 c.val) (BitVec.ofNat 32 r.val) = 1#1) ↔ c.val ≤ r.val := by word_cmp
  pointwise [k0_pay27]
  exact h

theorem score_wide (q : FVec Ideal S512x256 .bf16) (kb : FVec Ideal S256x1024 .bf16) (r : Fin 512) (c : Fin 1024) :
    k0_pay31 q kb (ix2 r c) = ∑ x : Fin 256, q (ix2 r x) * kb (ix2 x c) := by
  pointwise [k0_pay31]

theorem top_wide (q : FVec Ideal S512x256 .bf16) (m : FVec Ideal S512x1 .f32) (kb : FVec Ideal S256x1024 .bf16) (r : Fin 512) :
    k0_pay32 q m kb (ix2 r 0) = max (m (ix2 r 0)) (Finset.univ.fold max ⊥ fun c : Fin 1024 => k0_pay31 q kb (ix2 r c)) := by
  pointwise [k0_pay32]
  rw [minus_inf]

theorem scale_wide (q : FVec Ideal S512x256 .bf16) (m : FVec Ideal S512x1 .f32) (kb : FVec Ideal S256x1024 .bf16) (r : Fin 512) :
    k0_pay33 q m kb (ix2 r 0) = Ideal.exp (m (ix2 r 0) - k0_pay32 q m kb (ix2 r 0)) := by
  pointwise [k0_pay33]

theorem sum_wide (q : FVec Ideal S512x256 .bf16) (m : FVec Ideal S512x1 .f32) (kb : FVec Ideal S256x1024 .bf16) (vb : FVec Ideal S144x1024 .bf16) (r : Fin 512)
    (l : Fin 144) :
    k0_pay34 q m kb vb (ix2 r l)
      = ∑ c : Fin 1024, Ideal.exp (k0_pay31 q kb (ix2 r c) - k0_pay32 q m kb (ix2 r 0)) * vb (ix2 l c) := by
  pointwise [k0_pay34]

theorem den_wide (q : FVec Ideal S512x256 .bf16) (m d : FVec Ideal S512x1 .f32) (kb : FVec Ideal S256x1024 .bf16) (vb : FVec Ideal S144x1024 .bf16) (r : Fin 512) :
    k0_pay35 q m d kb vb (ix2 r 0) = k0_pay33 q m kb (ix2 r 0) * d (ix2 r 0) + k0_pay34 q m kb vb (ix2 r 128) := by
  pointwise [k0_pay35]

theorem score_narrow (q : FVec Ideal S512x256 .bf16) (kb : FVec Ideal S256x512 .bf16) (r : Fin 512) (c : Fin 512) :
    k0_pay53 q kb (ix2 r c) = ∑ x : Fin 256, q (ix2 r x) * kb (ix2 x c) := by
  pointwise [k0_pay53]

theorem top_narrow (q : FVec Ideal S512x256 .bf16) (m : FVec Ideal S512x1 .f32) (kb : FVec Ideal S256x512 .bf16) (r : Fin 512) :
    k0_pay54 q m kb (ix2 r 0) = max (m (ix2 r 0)) (Finset.univ.fold max ⊥ fun c : Fin 512 => k0_pay53 q kb (ix2 r c)) := by
  pointwise [k0_pay54]
  rw [minus_inf]

theorem scale_narrow (q : FVec Ideal S512x256 .bf16) (m : FVec Ideal S512x1 .f32) (kb : FVec Ideal S256x512 .bf16) (r : Fin 512) :
    k0_pay55 q m kb (ix2 r 0) = Ideal.exp (m (ix2 r 0) - k0_pay54 q m kb (ix2 r 0)) := by
  pointwise [k0_pay55]

theorem sum_narrow (q : FVec Ideal S512x256 .bf16) (m : FVec Ideal S512x1 .f32) (kb : FVec Ideal S256x512 .bf16) (vb : FVec Ideal S144x512 .bf16) (r : Fin 512)
    (l : Fin 144) :
    k0_pay56 q m kb vb (ix2 r l)
      = ∑ c : Fin 512, Ideal.exp (k0_pay53 q kb (ix2 r c) - k0_pay54 q m kb (ix2 r 0)) * vb (ix2 l c) := by
  pointwise [k0_pay56]

theorem den_narrow (q : FVec Ideal S512x256 .bf16) (m d : FVec Ideal S512x1 .f32) (kb : FVec Ideal S256x512 .bf16) (vb : FVec Ideal S144x512 .bf16) (r : Fin 512) :
    k0_pay57 q m d kb vb (ix2 r 0) = k0_pay55 q m kb (ix2 r 0) * d (ix2 r 0) + k0_pay56 q m kb vb (ix2 r 128) := by
  pointwise [k0_pay57]

theorem score_last (q : FVec Ideal S512x256 .bf16) (kb : FVec Ideal S256x512 .bf16) (r : Fin 512) (c : Fin 512) :
    k0_pay64 q k0_pay27 kb (ix2 r c) = if c.val ≤ r.val then ∑ x : Fin 256, q (ix2 r x) * kb (ix2 x c) else ⊥ := by
  have h := causal_apply r c
  pointwise [k0_pay64]
  unfold Scalar.select
  by_cases hc : c.val ≤ r.val
  · rw [if_pos hc]
    exact if_pos (h.mpr hc)
  · rw [if_neg hc, ← minus_inf]
    exact if_neg (mt h.mp hc)

theorem top_last (q : FVec Ideal S512x256 .bf16) (m : FVec Ideal S512x1 .f32) (kb : FVec Ideal S256x512 .bf16) (r : Fin 512) :
    k0_pay65 q k0_pay27 m kb (ix2 r 0) = max (m (ix2 r 0)) (Finset.univ.fold max ⊥ fun c : Fin 512 => k0_pay64 q k0_pay27 kb (ix2 r c)) := by
  pointwise [k0_pay65]
  rw [minus_inf]

theorem scale_last (q : FVec Ideal S512x256 .bf16) (m : FVec Ideal S512x1 .f32) (kb : FVec Ideal S256x512 .bf16) (r : Fin 512) :
    k0_pay66 q k0_pay27 m kb (ix2 r 0) = Ideal.exp (m (ix2 r 0) - k0_pay65 q k0_pay27 m kb (ix2 r 0)) := by
  pointwise [k0_pay66]

theorem sum_last (q : FVec Ideal S512x256 .bf16) (m : FVec Ideal S512x1 .f32) (kb : FVec Ideal S256x512 .bf16) (vb : FVec Ideal S144x512 .bf16) (r : Fin 512)
    (l : Fin 144) :
    k0_pay67 q k0_pay27 m kb vb (ix2 r l)
      = ∑ c : Fin 512, Ideal.exp (k0_pay64 q k0_pay27 kb (ix2 r c) - k0_pay65 q k0_pay27 m kb (ix2 r 0)) * vb (ix2 l c) := by
  pointwise [k0_pay67]

theorem den_last (q : FVec Ideal S512x256 .bf16) (m d : FVec Ideal S512x1 .f32) (kb : FVec Ideal S256x512 .bf16) (vb : FVec Ideal S144x512 .bf16) (r : Fin 512) :
    k0_pay68 q k0_pay27 m d kb vb (ix2 r 0) = k0_pay66 q k0_pay27 m kb (ix2 r 0) * d (ix2 r 0) + k0_pay67 q k0_pay27 m kb vb (ix2 r 128) := by
  pointwise [k0_pay68]

end Cert.KernelIdeal.Attn

end
-- ==== Proof.Fold.lean ====
/- The weighted values of both heads after one block of keys, and the quotient of the last one, at an index. -/
module

public import proofs.«01_k».proof.Proof.Steps

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- A lane of the 128 weighted values, among the 144 rows. -/
def lane (l : Fin 128) : Fin 144 := ⟨l.val, by omega⟩

theorem acc_wide (v6 : FVec Ideal S512x128 .bf16) (v7 : IVec S512x128 32) (q : FVec Ideal S512x256 .bf16)
    (v82 : FVec Ideal S512x128 .f32) (v84 : IVec S512x128 1) (c9 : BitVec 32) (m m' : FVec Ideal S512x1 .f32)
    (acc : FVec Ideal S512x128 .f32) (kb : FVec Ideal S256x1024 .bf16) (vb : FVec Ideal S144x1024 .bf16) (r : Fin 512)
    (l : Fin 128) :
    k0_pay41 v6 v7 k0_pay17 q v82 v84 c9 m m' acc kb vb (ix2 r l)
      = (if l.val < 64 then k0_pay33 q m kb (ix2 r 0) else k0_pay33 (k0_pay26 v6 v7 k0_pay17 v82 v84 c9) m' kb (ix2 r 0))
          * acc (ix2 r l)
        + if l.val < 64 then k0_pay34 q m kb vb (ix2 r (lane l))
          else k0_pay34 (k0_pay26 v6 v7 k0_pay17 v82 v84 c9) m' kb vb (ix2 r (lane l)) := by
  pointwise [k0_pay41]
  simp only [low_apply, pick_low]
  rfl

theorem acc_narrow (q q' : FVec Ideal S512x256 .bf16) (m m' : FVec Ideal S512x1 .f32)
    (acc : FVec Ideal S512x128 .f32) (kb : FVec Ideal S256x512 .bf16) (vb : FVec Ideal S144x512 .bf16) (r : Fin 512)
    (l : Fin 128) :
    k0_pay63 k0_pay17 q q' m m' acc kb vb (ix2 r l)
      = (if l.val < 64 then k0_pay55 q m kb (ix2 r 0) else k0_pay55 q' m' kb (ix2 r 0)) * acc (ix2 r l)
        + if l.val < 64 then k0_pay56 q m kb vb (ix2 r (lane l)) else k0_pay56 q' m' kb vb (ix2 r (lane l)) := by
  pointwise [k0_pay63]
  simp only [low_apply, pick_low]
  rfl

theorem lane_last (q : FVec Ideal S512x256 .bf16) (m : FVec Ideal S512x1 .f32) (kb : FVec Ideal S256x512 .bf16)
    (vb : FVec Ideal S144x512 .bf16) (r : Fin 512) (l : Fin 128) :
    k0_pay69 q k0_pay27 m kb vb (ix2 r l) = k0_pay67 q k0_pay27 m kb vb (ix2 r (lane l)) := by
  pointwise [k0_pay69]
  rfl

theorem less_last (q : FVec Ideal S512x256 .bf16) (m : FVec Ideal S512x1 .f32) (kb : FVec Ideal S256x512 .bf16)
    (r c : Fin 512) :
    k0_pay72 q k0_pay27 m kb (ix2 r c) = k0_pay64 q k0_pay27 kb (ix2 r c) - k0_pay65 q k0_pay27 m kb (ix2 r 0) := by
  pointwise [k0_pay72]
  rfl

theorem quotient_last (m d : FVec Ideal S512x1 .f32) (acc : FVec Ideal S512x128 .f32) (vb : FVec Ideal S144x512 .bf16)
    (al0 d0 : FVec Ideal S512x1 .f32) (pv0 : FVec Ideal S512x128 .f32) (m' : FVec Ideal S512x1 .f32)
    (e : FVec Ideal S512x512 .f32) (r : Fin 512) (l : Fin 128) :
    k0_pay1 k0_pay17 m d acc vb al0 d0 pv0 m' e (ix2 r l)
      = Ideal.div
          ((if l.val < 64 then al0 (ix2 r 0) else Ideal.exp (m (ix2 r 0) - m' (ix2 r 0))) * acc (ix2 r l)
            + if l.val < 64 then pv0 (ix2 r l) else ∑ c, Ideal.exp (e (ix2 r c)) * vb (ix2 (lane l) c))
          (if l.val < 64 then d0 (ix2 r 0)
            else Ideal.exp (m (ix2 r 0) - m' (ix2 r 0)) * d (ix2 r 0) + ∑ c, Ideal.exp (e (ix2 r c)) * vb (ix2 128 c)) := by
  pointwise [k0_pay1]
  simp only [low_apply, pick_low]
  rfl

end Cert.KernelIdeal.Attn

end
-- ==== Proof.Scan.lean ====
/- The carried value after each block of keys: per head the greatest score so far, the sum of the weights and the
   weighted values. -/
module

public import proofs.«01_k».proof.Proof.Fold

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Online (top num den Tame)

theorem head_wide (q : FVec Ideal S512x256 .bf16) (m d : FVec Ideal S512x1 .f32) (kb : FVec Ideal S256x1024 .bf16) (vb : FVec Ideal S144x1024 .bf16) (r : Fin 512)
    {s : ℕ → EReal} (hs : Tame s) (V : Fin 128 → ℕ → EReal) (N : ℕ)
    (hq : ∀ c : Fin 1024, k0_pay31 q kb (ix2 r c) = s (N + c.val)) (hm : m (ix2 r 0) = top s N)
    (hd : d (ix2 r 0) = den s N) (hv : ∀ l (c : Fin 1024), vb (ix2 (lane l) c) = V l (N + c.val))
    (h1 : ∀ c : Fin 1024, vb (ix2 128 c) = 1) :
    k0_pay32 q m kb (ix2 r 0) = top s (N + 1024) ∧ k0_pay35 q m d kb vb (ix2 r 0) = den s (N + 1024)
      ∧ ∀ l, k0_pay33 q m kb (ix2 r 0) * num s (V l) N + k0_pay34 q m kb vb (ix2 r (lane l)) = num s (V l) (N + 1024) := by
  have ht : k0_pay32 q m kb (ix2 r 0) = top s (N + 1024) := by
    rw [top_wide, Online.top_add, hm]
    simp only [hq]
  refine ⟨ht, ?_, fun l => ?_⟩
  · rw [den_wide, scale_wide, sum_wide, ht, hm, hd]
    simp only [hq, h1, mul_one]
    exact Online.den_add hs N 1024 (by decide)
  · rw [scale_wide, sum_wide, ht, hm]
    simp only [hq, hv]
    exact Online.num_add hs (V l) N 1024 (by decide)

theorem head_narrow (q : FVec Ideal S512x256 .bf16) (m d : FVec Ideal S512x1 .f32) (kb : FVec Ideal S256x512 .bf16) (vb : FVec Ideal S144x512 .bf16) (r : Fin 512)
    {s : ℕ → EReal} (hs : Tame s) (V : Fin 128 → ℕ → EReal) (N : ℕ)
    (hq : ∀ c : Fin 512, k0_pay53 q kb (ix2 r c) = s (N + c.val)) (hm : m (ix2 r 0) = top s N)
    (hd : d (ix2 r 0) = den s N) (hv : ∀ l (c : Fin 512), vb (ix2 (lane l) c) = V l (N + c.val))
    (h1 : ∀ c : Fin 512, vb (ix2 128 c) = 1) :
    k0_pay54 q m kb (ix2 r 0) = top s (N + 512) ∧ k0_pay57 q m d kb vb (ix2 r 0) = den s (N + 512)
      ∧ ∀ l, k0_pay55 q m kb (ix2 r 0) * num s (V l) N + k0_pay56 q m kb vb (ix2 r (lane l)) = num s (V l) (N + 512) := by
  have ht : k0_pay54 q m kb (ix2 r 0) = top s (N + 512) := by
    rw [top_narrow, Online.top_add, hm]
    simp only [hq]
  refine ⟨ht, ?_, fun l => ?_⟩
  · rw [den_narrow, scale_narrow, sum_narrow, ht, hm, hd]
    simp only [hq, h1, mul_one]
    exact Online.den_add hs N 512 (by decide)
  · rw [scale_narrow, sum_narrow, ht, hm]
    simp only [hq, hv]
    exact Online.num_add hs (V l) N 512 (by decide)

theorem head_last (q : FVec Ideal S512x256 .bf16) (m d : FVec Ideal S512x1 .f32) (kb : FVec Ideal S256x512 .bf16) (vb : FVec Ideal S144x512 .bf16) (r : Fin 512)
    {s : ℕ → EReal} (hs : Tame s) (V : Fin 128 → ℕ → EReal) (N : ℕ)
    (hq : ∀ c : Fin 512, k0_pay64 q k0_pay27 kb (ix2 r c) = s (N + c.val)) (hm : m (ix2 r 0) = top s N)
    (hd : d (ix2 r 0) = den s N) (hv : ∀ l (c : Fin 512), vb (ix2 (lane l) c) = V l (N + c.val))
    (h1 : ∀ c : Fin 512, vb (ix2 128 c) = 1) :
    k0_pay65 q k0_pay27 m kb (ix2 r 0) = top s (N + 512) ∧ k0_pay68 q k0_pay27 m d kb vb (ix2 r 0) = den s (N + 512)
      ∧ ∀ l, k0_pay66 q k0_pay27 m kb (ix2 r 0) * num s (V l) N + k0_pay67 q k0_pay27 m kb vb (ix2 r (lane l)) = num s (V l) (N + 512) := by
  have ht : k0_pay65 q k0_pay27 m kb (ix2 r 0) = top s (N + 512) := by
    rw [top_last, Online.top_add, hm]
    simp only [hq]
  refine ⟨ht, ?_, fun l => ?_⟩
  · rw [den_last, scale_last, sum_last, ht, hm, hd]
    simp only [hq, h1, mul_one]
    exact Online.den_add hs N 512 (by decide)
  · rw [scale_last, sum_last, ht, hm]
    simp only [hq, hv]
    exact Online.num_add hs (V l) N 512 (by decide)

/-- What the body carries after the first `N` keys, `s0` and `s1` the scores of the two heads and `V` their values. -/
structure Holds (s0 s1 : Fin 512 → ℕ → EReal) (V : Fin 128 → ℕ → EReal) (N : ℕ) (a : Carry Ideal) : Prop where
  m0 : ∀ r, a.1 (ix2 r 0) = top (s0 r) N
  m1 : ∀ r, a.2.1 (ix2 r 0) = top (s1 r) N
  d0 : ∀ r, a.2.2.1 (ix2 r 0) = den (s0 r) N
  d1 : ∀ r, a.2.2.2.1 (ix2 r 0) = den (s1 r) N
  acc : ∀ r l, a.2.2.2.2 (ix2 r l) = if l.val < 64 then num (s0 r) (V l) N else num (s1 r) (V l) N

theorem holds_start (s0 s1 : Fin 512 → ℕ → EReal) (V : Fin 128 → ℕ → EReal) : Holds s0 s1 V 0 start := by
  constructor
  · intro r
    rw [Online.top_zero, ← minus_inf]
    pointwise [start, k0_pay28]
  · intro r
    rw [Online.top_zero, ← minus_inf]
    pointwise [start, k0_pay28]
  · intro r
    rw [Online.den_zero]
    pointwise [start, k0_pay29]
  · intro r
    rw [Online.den_zero]
    pointwise [start, k0_pay29]
  · intro r l
    rw [Online.num_zero, Online.num_zero, ite_self]
    pointwise [start, k0_pay30]

theorem holds_wide (i : grid0.Coords) (x0 : FVec Ideal S512x128 .bf16) (x3 : FVec Ideal S512x128 .f32)
    (kb : FVec Ideal S256x1024 .bf16) (vb : FVec Ideal S144x1024 .bf16) (a : Carry Ideal) {s0 s1 : Fin 512 → ℕ → EReal}
    (hs0 : ∀ r, Tame (s0 r)) (hs1 : ∀ r, Tame (s1 r)) {V : Fin 128 → ℕ → EReal} {N : ℕ}
    (hq0 : ∀ r (c : Fin 1024), ∑ x : Fin 256, q0 i x0 x3 (ix2 r x) * kb (ix2 x c) = s0 r (N + c.val))
    (hq1 : ∀ r (c : Fin 1024), ∑ x : Fin 256, q1 i x0 x3 (ix2 r x) * kb (ix2 x c) = s1 r (N + c.val))
    (hv : ∀ l (c : Fin 1024), vb (ix2 (lane l) c) = V l (N + c.val)) (h1 : ∀ c : Fin 1024, vb (ix2 128 c) = 1)
    (ha : Holds s0 s1 V N a) : Holds s0 s1 V (N + 1024) (wide i x0 x3 kb vb a) := by
  have A r := head_wide (q0 i x0 x3) a.1 a.2.2.1 kb vb r (hs0 r) V N
    (fun c => (score_wide _ kb r c).trans (hq0 r c)) (ha.m0 r) (ha.d0 r) hv h1
  have B r := head_wide (q1 i x0 x3) a.2.1 a.2.2.2.1 kb vb r (hs1 r) V N
    (fun c => (score_wide _ kb r c).trans (hq1 r c)) (ha.m1 r) (ha.d1 r) hv h1
  refine ⟨fun r => (A r).1, fun r => (B r).1, fun r => (A r).2.1, fun r => (B r).2.1, fun r l => ?_⟩
  refine (acc_wide (k0_pay16 x0) laneIx (q0 i x0 x3) (g1 i x3) (k0_pay25 laneIx) 9#32 a.1 a.2.1 a.2.2.2.2 kb vb r l).trans ?_
  rw [ha.acc r l]
  by_cases hl : l.val < 64
  · simp only [hl, if_true]
    exact (A r).2.2 l
  · simp only [hl, if_false]
    exact (B r).2.2 l

theorem holds_narrow (i : grid0.Coords) (x0 : FVec Ideal S512x128 .bf16) (x3 : FVec Ideal S512x128 .f32)
    (kb : FVec Ideal S256x512 .bf16) (vb : FVec Ideal S144x512 .bf16) (a : Carry Ideal) {s0 s1 : Fin 512 → ℕ → EReal}
    (hs0 : ∀ r, Tame (s0 r)) (hs1 : ∀ r, Tame (s1 r)) {V : Fin 128 → ℕ → EReal} {N : ℕ}
    (hq0 : ∀ r (c : Fin 512), ∑ x : Fin 256, q0 i x0 x3 (ix2 r x) * kb (ix2 x c) = s0 r (N + c.val))
    (hq1 : ∀ r (c : Fin 512), ∑ x : Fin 256, q1 i x0 x3 (ix2 r x) * kb (ix2 x c) = s1 r (N + c.val))
    (hv : ∀ l (c : Fin 512), vb (ix2 (lane l) c) = V l (N + c.val)) (h1 : ∀ c : Fin 512, vb (ix2 128 c) = 1)
    (ha : Holds s0 s1 V N a) : Holds s0 s1 V (N + 512) (narrow i x0 x3 kb vb a) := by
  have A r := head_narrow (q0 i x0 x3) a.1 a.2.2.1 kb vb r (hs0 r) V N
    (fun c => (score_narrow _ kb r c).trans (hq0 r c)) (ha.m0 r) (ha.d0 r) hv h1
  have B r := head_narrow (q1 i x0 x3) a.2.1 a.2.2.2.1 kb vb r (hs1 r) V N
    (fun c => (score_narrow _ kb r c).trans (hq1 r c)) (ha.m1 r) (ha.d1 r) hv h1
  refine ⟨fun r => (A r).1, fun r => (B r).1, fun r => (A r).2.1, fun r => (B r).2.1, fun r l => ?_⟩
  refine (acc_narrow (q0 i x0 x3) (q1 i x0 x3) a.1 a.2.1 a.2.2.2.2 kb vb r l).trans ?_
  rw [ha.acc r l]
  by_cases hl : l.val < 64
  · simp only [hl, if_true]
    exact (A r).2.2 l
  · simp only [hl, if_false]
    exact (B r).2.2 l

theorem lastOut_apply (i : grid0.Coords) (x0 : FVec Ideal S512x128 .bf16) (x3 : FVec Ideal S512x128 .f32)
    (kb : FVec Ideal S256x512 .bf16) (vb : FVec Ideal S144x512 .bf16) (a : Carry Ideal) {s0 s1 : Fin 512 → ℕ → EReal}
    (hs0 : ∀ r, Tame (s0 r)) (hs1 : ∀ r, Tame (s1 r)) {V : Fin 128 → ℕ → EReal} {N : ℕ}
    (hq0 : ∀ r (c : Fin 512),
      (if c.val ≤ r.val then ∑ x : Fin 256, q0 i x0 x3 (ix2 r x) * kb (ix2 x c) else ⊥) = s0 r (N + c.val))
    (hq1 : ∀ r (c : Fin 512),
      (if c.val ≤ r.val then ∑ x : Fin 256, q1 i x0 x3 (ix2 r x) * kb (ix2 x c) else ⊥) = s1 r (N + c.val))
    (hv : ∀ l (c : Fin 512), vb (ix2 (lane l) c) = V l (N + c.val)) (h1 : ∀ c : Fin 512, vb (ix2 128 c) = 1)
    (ha : Holds s0 s1 V N a) (r : Fin 512) (l : Fin 128) :
    lastOut i x0 x3 kb vb a (ix2 r l)
      = Ideal.div (num (if l.val < 64 then s0 r else s1 r) (V l) (N + 512)) (den (if l.val < 64 then s0 r else s1 r) (N + 512)) := by
  have A := head_last (q0 i x0 x3) a.1 a.2.2.1 kb vb r (hs0 r) V N
    (fun c => (score_last _ kb r c).trans (hq0 r c)) (ha.m0 r) (ha.d0 r) hv h1
  have B := head_last (q1 i x0 x3) a.2.1 a.2.2.2.1 kb vb r (hs1 r) V N
    (fun c => (score_last _ kb r c).trans (hq1 r c)) (ha.m1 r) (ha.d1 r) hv h1
  refine (quotient_last _ _ _ _ _ _ _ _ _ r l).trans ?_
  rw [ha.acc r l]
  by_cases hl : l.val < 64
  · simp only [hl, if_true]
    rw [lane_last]
    exact congrArg₂ Ideal.div (A.2.2 l) A.2.1
  · simp only [hl, if_false, less_last]
    refine congrArg₂ Ideal.div (Eq.trans ?_ (B.2.2 l)) (Eq.trans ?_ B.2.1)
    · rw [scale_last, sum_last]
      rfl
    · rw [den_last, scale_last, sum_last]
      rfl

end Cert.KernelIdeal.Attn

end
-- ==== Proof.Stored.lean ====
/- The block a point stores, read at an index: the quotient of the two sums over the keys up to its last one. -/
module

public import proofs.«01_k».proof.Proof.Scan

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Online (top num den Tame)

/-- The coordinates of point `t`, the number of wide blocks there, and where the blocks of keys start. -/
theorem at_point : ∀ t : Fin grid0.N,
    ((grid0.coords t) 0).val = t.val / 64 ∧ ((grid0.coords t) 1).val = t.val / 16 % 4 ∧ ((grid0.coords t) 2).val = t.val % 16
      ∧ (k0_t1_loop (grid0.coords t)).trips = t.val % 16 / 2
      ∧ (k0_cond2 (grid0.coords t) = 1#1 ↔ t.val % 2 = 1)
      ∧ (t.val % 2 = 1 → k0_off6 (grid0.coords t) = ![0, 512 * (t.val % 16 - 1)] ∧ k0_off7 (grid0.coords t) = ![0, 512 * (t.val % 16 - 1)]) := by
  decide +kernel

theorem at_trip : ∀ t : Fin grid0.N, ∀ k : Fin (k0_t1_loop (grid0.coords t)).trips,
    k0_off2 (grid0.coords t) k = ![0, 1024 * k.val] ∧ k0_off3 (grid0.coords t) k = ![0, 1024 * k.val] := by
  decide +kernel

/-- A block of columns read at an index, from where it starts. -/
theorem cols {a n w : ℕ} (X : Vec Ideal ⟨2, ![a, n]⟩ .bf16) {off : Fin 2 → ℕ} {p : ℕ} (he : off = ![0, p])
    (h : ∀ x, off x + (⟨2, ![a, w]⟩ : Shape).size x ≤ (⟨2, ![a, n]⟩ : Shape).size x) (r : Fin a) (c : Fin w)
    (j : Fin n) (hj : j.val = p + c.val) :
    View.ld X (Rect.unit (s := ⟨2, ![a, n]⟩) off (⟨2, ![a, w]⟩ : Shape).size h) (ix2 r c) = X (ix2 r j) := by
  subst he
  pointwise
  congr 1
  rw [Shape.Idx.norm_def]
  funext x
  apply Fin.ext
  match x with
  | 0 => exact Nat.zero_add _
  | 1 => exact hj.symm

theorem colsK1 (X : Vec Ideal S256x8192 .bf16) {off : Fin 2 → ℕ} {p : ℕ} (he : off = ![0, p])
    (h : ∀ x, off x + S256x1024.size x ≤ S256x8192.size x) (r : Fin 256) (c : Fin 1024) (j : Fin 8192) (hj : j.val = p + c.val) :
    View.ld X (Rect.unit (s := S256x8192) off S256x1024.size h) (ix2 r c) = X (ix2 r j) := cols X he h r c j hj

theorem colsK0 (X : Vec Ideal S256x8192 .bf16) {off : Fin 2 → ℕ} {p : ℕ} (he : off = ![0, p])
    (h : ∀ x, off x + S256x512.size x ≤ S256x8192.size x) (r : Fin 256) (c : Fin 512) (j : Fin 8192) (hj : j.val = p + c.val) :
    View.ld X (Rect.unit (s := S256x8192) off S256x512.size h) (ix2 r c) = X (ix2 r j) := cols X he h r c j hj

theorem colsV1 (X : Vec Ideal S144x8192 .bf16) {off : Fin 2 → ℕ} {p : ℕ} (he : off = ![0, p])
    (h : ∀ x, off x + S144x1024.size x ≤ S144x8192.size x) (r : Fin 144) (c : Fin 1024) (j : Fin 8192) (hj : j.val = p + c.val) :
    View.ld X (Rect.unit (s := S144x8192) off S144x1024.size h) (ix2 r c) = X (ix2 r j) := cols X he h r c j hj

theorem colsV0 (X : Vec Ideal S144x8192 .bf16) {off : Fin 2 → ℕ} {p : ℕ} (he : off = ![0, p])
    (h : ∀ x, off x + S144x512.size x ≤ S144x8192.size x) (r : Fin 144) (c : Fin 512) (j : Fin 8192) (hj : j.val = p + c.val) :
    View.ld X (Rect.unit (s := S144x8192) off S144x512.size h) (ix2 r c) = X (ix2 r j) := cols X he h r c j hj

section point

variable (t : Fin grid0.N) (x0 : FVec Ideal S512x128 .bf16) (x3 : FVec Ideal S512x128 .f32)
  (K : FVec Ideal S256x8192 .bf16) (W : FVec Ideal S144x8192 .bf16) {s0 s1 : Fin 512 → ℕ → EReal}
  (hs0 : ∀ r, Tame (s0 r)) (hs1 : ∀ r, Tame (s1 r)) {V : Fin 128 → ℕ → EReal}
  (hq0 : ∀ r (j : Fin 8192), j.val ≤ 512 * (t.val % 16) + r.val →
    ∑ x : Fin 256, q0 (grid0.coords t) x0 x3 (ix2 r x) * K (ix2 x j) = s0 r j.val)
  (hq1 : ∀ r (j : Fin 8192), j.val ≤ 512 * (t.val % 16) + r.val →
    ∑ x : Fin 256, q1 (grid0.coords t) x0 x3 (ix2 r x) * K (ix2 x j) = s1 r j.val)
  (hb0 : ∀ r (j : ℕ), 512 * (t.val % 16) + r.val < j → s0 r j = ⊥)
  (hb1 : ∀ r (j : ℕ), 512 * (t.val % 16) + r.val < j → s1 r j = ⊥)
  (hv : ∀ l (j : Fin 8192), W (ix2 (lane l) j) = V l j.val) (h1 : ∀ j : Fin 8192, W (ix2 128 j) = 1)

include hs0 hs1 hq0 hq1 hv h1

theorem holds_before (k : ℕ) (hk : k ≤ t.val % 16 / 2) :
    Holds s0 s1 V (1024 * k) (before (grid0.coords t) x0 x3 K W k) := by
  induction k with
  | zero => exact holds_start s0 s1 V
  | succ k ih =>
    have htr := (at_point t).2.2.2.1
    have h : k < (k0_t1_loop (grid0.coords t)).trips := by omega
    have hi := ih (by omega)
    obtain ⟨e2, e3⟩ := at_trip t ⟨k, h⟩
    rw [before, dif_pos h, Nat.mul_succ]
    have hj (c : Fin 1024) : 1024 * k + c.val < 8192 := by omega
    refine holds_wide _ _ _ _ _ _ hs0 hs1 (fun r c => ?_) (fun r c => ?_) (fun l c => ?_) (fun c => ?_) hi
    · exact (Finset.sum_congr rfl fun x _ => congrArg _ (colsK1 _ e2 _ x c ⟨_, hj c⟩ rfl)).trans (hq0 r ⟨_, hj c⟩ (by
        show 1024 * k + c.val ≤ _
        omega))
    · exact (Finset.sum_congr rfl fun x _ => congrArg _ (colsK1 _ e2 _ x c ⟨_, hj c⟩ rfl)).trans (hq1 r ⟨_, hj c⟩ (by
        show 1024 * k + c.val ≤ _
        omega))
    · exact (colsV1 _ e3 _ (lane l) c ⟨_, hj c⟩ rfl).trans (hv l ⟨_, hj c⟩)
    · exact (colsV1 _ e3 _ 128 c ⟨_, hj c⟩ rfl).trans (h1 ⟨_, hj c⟩)

theorem holds_atLast : Holds s0 s1 V (512 * (t.val % 16)) (atLast (grid0.coords t) x0 x3 K W) := by
  obtain ⟨-, -, -, htr, hodd, hoff⟩ := at_point t
  have hi := holds_before t x0 x3 K W hs0 hs1 hq0 hq1 hv h1 _ (le_of_eq htr)
  rw [atLast]
  by_cases h : k0_cond2 (grid0.coords t) = 1#1
  · rw [dif_pos h]
    have ho := hodd.mp h
    obtain ⟨e6, e7⟩ := hoff ho
    have hN : 1024 * (k0_t1_loop (grid0.coords t)).trips = 512 * (t.val % 16 - 1) := by omega
    have hN' : 512 * (t.val % 16) = 512 * (t.val % 16 - 1) + 512 := by omega
    rw [hN] at hi
    rw [hN']
    have hj (c : Fin 512) : 512 * (t.val % 16 - 1) + c.val < 8192 := by omega
    refine holds_narrow _ _ _ _ _ _ hs0 hs1 (fun r c => ?_) (fun r c => ?_) (fun l c => ?_) (fun c => ?_) hi
    · exact (Finset.sum_congr rfl fun x _ => congrArg _ (colsK0 _ e6 _ x c ⟨_, hj c⟩ rfl)).trans (hq0 r ⟨_, hj c⟩ (by
        show 512 * (t.val % 16 - 1) + c.val ≤ _
        omega))
    · exact (Finset.sum_congr rfl fun x _ => congrArg _ (colsK0 _ e6 _ x c ⟨_, hj c⟩ rfl)).trans (hq1 r ⟨_, hj c⟩ (by
        show 512 * (t.val % 16 - 1) + c.val ≤ _
        omega))
    · exact (colsV0 _ e7 _ (lane l) c ⟨_, hj c⟩ rfl).trans (hv l ⟨_, hj c⟩)
    · exact (colsV0 _ e7 _ 128 c ⟨_, hj c⟩ rfl).trans (h1 ⟨_, hj c⟩)
  · rw [dif_neg h]
    have ho := mt hodd.mpr h
    have hN : 1024 * (k0_t1_loop (grid0.coords t)).trips = 512 * (t.val % 16) := by omega
    rw [hN] at hi
    exact hi

include hb0 hb1 in
/-- The stored block at an index: head 0's quotient in the first 64 lanes and head 1's in the others. -/
theorem stored_apply (r : Fin 512) (l : Fin 128) :
    (stored (F := Ideal) (grid0.coords t) x0 x3 K W (ix2 r l) : EReal)
      = Ideal.div (num (if l.val < 64 then s0 r else s1 r) (V l) (512 * (t.val % 16) + 512))
          (den (if l.val < 64 then s0 r else s1 r) (512 * (t.val % 16) + 512)) := by
  have e8 : k0_off8 (grid0.coords t) = ![0, 512 * (t.val % 16)] := by rw [k0_off8_eq, (at_point t).2.2.1]
  have e9 : k0_off9 (grid0.coords t) = ![0, 512 * (t.val % 16)] := by rw [k0_off9_eq, (at_point t).2.2.1]
  have hj (c : Fin 512) : 512 * (t.val % 16) + c.val < 8192 := by omega
  rw [stored]
  refine lastOut_apply _ _ _ _ _ _ hs0 hs1 (fun r c => ?_) (fun r c => ?_) (fun l c => ?_) (fun c => ?_)
    (holds_atLast t x0 x3 K W hs0 hs1 hq0 hq1 hv h1) r l
  · by_cases hc : c.val ≤ r.val
    · rw [if_pos hc]
      exact (Finset.sum_congr rfl fun x _ => congrArg _ (colsK0 _ e8 _ x c ⟨_, hj c⟩ rfl)).trans (hq0 r ⟨_, hj c⟩ (by
        show 512 * (t.val % 16) + c.val ≤ _
        omega))
    · rw [if_neg hc, hb0 r _ (by omega)]
  · by_cases hc : c.val ≤ r.val
    · rw [if_pos hc]
      exact (Finset.sum_congr rfl fun x _ => congrArg _ (colsK0 _ e8 _ x c ⟨_, hj c⟩ rfl)).trans (hq1 r ⟨_, hj c⟩ (by
        show 512 * (t.val % 16) + c.val ≤ _
        omega))
    · rw [if_neg hc, hb1 r _ (by omega)]
  · exact (colsV0 _ e9 _ (lane l) c ⟨_, hj c⟩ rfl).trans (hv l ⟨_, hj c⟩)
  · exact (colsV0 _ e9 _ 128 c ⟨_, hj c⟩ rfl).trans (h1 ⟨_, hj c⟩)

end point

end Cert.KernelIdeal.Attn

end
-- ==== Proof.Rows.lean ====
/- The score of a query and a key, as the product of the augmented rows: the gate columns of the query and the gate
   rows of the key add the difference of their two summed gates to the product of the query and the key. -/
module

public import proofs.«01_k».proof.Proof.Stored
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

theorem pick_eq {α : Type} {n : ℕ} (hn : n < 2 ^ 31) (k : ℕ) (hk : k < 2 ^ 31) (x y : α) :
    Scalar.select (IntOp.cmpi .eq (BitVec.ofNat 32 n) (BitVec.ofNat 32 k)) x y = if n = k then x else y := by
  have h : (IntOp.cmpi .eq (BitVec.ofNat 32 n) (BitVec.ofNat 32 k) = 1#1) ↔ n = k := by word_cmp
  by_cases hnk : n = k
  · rw [if_pos hnk]
    exact if_pos (h.mpr hnk)
  · rw [if_neg hnk]
    exact if_neg (mt h.mp hnk)

theorem pick_lt {α : Type} {n : ℕ} (hn : n < 2 ^ 31) (k : ℕ) (hk : k < 2 ^ 31) (x y : α) :
    Scalar.select (IntOp.cmpi .slt (BitVec.ofNat 32 n) (BitVec.ofNat 32 k)) x y = if n < k then x else y := by
  have h : (IntOp.cmpi .slt (BitVec.ofNat 32 n) (BitVec.ofNat 32 k) = 1#1) ↔ n < k := by word_cmp
  by_cases hnk : n < k
  · rw [if_pos hnk]
    exact if_pos (h.mpr hnk)
  · rw [if_neg hnk]
    exact if_neg (mt h.mp hnk)

theorem pick_between {α : Type} {n : ℕ} (hn : n < 2 ^ 31) (a b : ℕ) (ha : a < 2 ^ 31) (hb : b < 2 ^ 31) (x y : α) :
    Scalar.select (IntOp.andi (IntOp.cmpi .sge (BitVec.ofNat 32 n) (BitVec.ofNat 32 a))
        (IntOp.cmpi .slt (BitVec.ofNat 32 n) (BitVec.ofNat 32 b))) x y = if a ≤ n ∧ n < b then x else y := by
  have h : (IntOp.andi (IntOp.cmpi .sge (BitVec.ofNat 32 n) (BitVec.ofNat 32 a))
      (IntOp.cmpi .slt (BitVec.ofNat 32 n) (BitVec.ofNat 32 b)) = 1#1) ↔ a ≤ n ∧ n < b := by word_cmp
  by_cases hnk : a ≤ n ∧ n < b
  · rw [if_pos hnk]
    exact if_pos (h.mpr hnk)
  · rw [if_neg hnk]
    exact if_neg (mt h.mp hnk)

theorem sub_self_real (a : ℝ) : (a : EReal) - (a : EReal) = 0 := by
  rw [← EReal.coe_sub, sub_self, EReal.coe_zero]

/-! ## The key rows -/

theorem ext_apply (r0 r1 : Vec Ideal S1x8192 .f32) (e : Fin 16) (j : Fin 8192) {a b : ℝ}
    (ha : r0 (ix2 0 j) = (a : EReal)) (hb : r1 (ix2 0 j) = (b : EReal)) :
    extRows r0 r1 (ix2 e j)
      = if e.val = 3 then -(a : EReal) else if e.val = 6 then -(b : EReal) else if e.val < 3 then 1 else 0 := by
  have he : e.val < 2 ^ 31 := by omega
  pointwise [extRows, k0_pay4, k0_pay5, k0_pay6, k0_pay7, k0_pay8, k0_pay9, k0_pay10, k0_pay11]
  rw [ha, hb, sub_self_real, sub_self_real, pick_eq he 8 (by decide), pick_eq he 7 (by decide), pick_eq he 6 (by decide),
    pick_eq he 5 (by decide), pick_eq he 4 (by decide), pick_eq he 3 (by decide), pick_lt he 3 (by decide)]
  simp only [sub_zero, zero_sub]
  split_ifs <;> first | rfl | omega

theorem kaug_keys (x1 : Vec Ideal S1x128x8192 .f32) (r0 r1 : Vec Ideal S1x8192 .f32) (x : Fin 128) (j : Fin 8192) :
    (kaug x1 r0 r1 (ix2 ⟨x.val, by omega⟩ j) : EReal) = x1 (ix3 0 x j) := by
  unfold kaug
  canon_tiles z h using (cover_k _ _ _ _)
  · idx_vars z
    omega
  · idx_vars z
    omega
  · idx_vars z
    obtain rfl := Fin.ext h0
    obtain rfl := Fin.ext h1
    pointwise [k0_pay2]

theorem kaug_ext (x1 : Vec Ideal S1x128x8192 .f32) (r0 r1 : Vec Ideal S1x8192 .f32) (e : Fin 128) (j : Fin 8192) {a b : ℝ}
    (ha : r0 (ix2 0 j) = (a : EReal)) (hb : r1 (ix2 0 j) = (b : EReal)) :
    (kaug x1 r0 r1 (ix2 ⟨128 + e.val, by omega⟩ j) : EReal)
      = if e.val = 3 then -(a : EReal) else if e.val = 6 then -(b : EReal) else if e.val < 3 then 1 else 0 := by
  unfold kaug
  canon_tiles z h using (cover_k _ _ _ _)
  · idx_vars z
    have : 16 ≤ e.val := by omega
    rw [if_neg (by omega), if_neg (by omega), if_neg (by omega)]
    pointwise [k0_pay13]
  · idx_vars z
    obtain rfl := Fin.ext h1
    have h0' : e.val = z0.val := by omega
    rw [h0']
    pointwise [k0_pay12]
    exact ext_apply r0 r1 z0 j ha hb
  · idx_vars z
    omega

/-! ## The value rows -/

theorem vaug_vals (x2 : Vec Ideal S1x128x8192 .f32) (l : Fin 128) (j : Fin 8192) :
    (vaug x2 (ix2 (lane l) j) : EReal) = x2 (ix3 0 l j) := by
  unfold vaug lane
  canon_tiles z h using (cover_v _ _ _)
  · idx_vars z
    omega
  · idx_vars z
    obtain rfl := Fin.ext h0
    obtain rfl := Fin.ext h1
    pointwise [k0_pay3]

theorem vaug_ones (x2 : Vec Ideal S1x128x8192 .f32) (j : Fin 8192) : (vaug x2 (ix2 128 j) : EReal) = 1 := by
  unfold vaug
  canon_tiles z h using (cover_v _ _ _)
  · idx_vars z
    pointwise [k0_pay14]
    have : z0.val = 0 := by simpa using h0
    rw [pick_eq (by omega) 0 (by decide), if_pos this]
  · idx_vars z
    exfalso
    have : (128 : Fin 144).val = z0.val := h0
    have : (128 : Fin 144).val = 128 := rfl
    omega

/-! ## The query rows -/

/-- The lane of the 128 where the summed gate of the pair's head `h` lies. -/
def gateLane (i : grid0.Coords) (h : Fin 2) : Fin 128 :=
  ⟨40 + 2 * (i 1).val + h.val, by have h4 : (i 1).val < 4 := (i 1).isLt; omega⟩

theorem lane_word (i : grid0.Coords) (h : Fin 2) :
    Scalar.addi (Scalar.addi (40#32) (Scalar.muli (BitVec.ofNat 32 (i 1).val) 2#32)) (BitVec.ofNat 32 h.val)
      = BitVec.ofNat 32 (gateLane i h).val := by
  have h4 : (i 1).val < 4 := (i 1).isLt
  have h2 := h.isLt
  simp only [gateLane]
  generalize (i 1).val = n at h4
  generalize h.val = m at h2
  interval_cases n <;> interval_cases m <;> rfl

theorem gate_sum (i : grid0.Coords) (h : Fin 2) (x3 : Vec Ideal S512x128 .f32) (r : Fin 512) :
    (∑ x : Fin 128, Scalar.select (IntOp.cmpi .eq (BitVec.ofNat 32 x.val)
      (Scalar.addi (Scalar.addi (40#32) (Scalar.muli (BitVec.ofNat 32 (i 1).val) 2#32)) (BitVec.ofNat 32 h.val)))
      (x3 (ix2 r x)) (0 : EReal)) = x3 (ix2 r (gateLane i h)) := by
  rw [lane_word, Finset.sum_eq_single (gateLane i h)]
  · rw [pick_eq (by omega) _ (by omega), if_pos rfl]
  · intro x _ hx
    rw [pick_eq (by omega) _ (by omega), if_neg (fun e => hx (Fin.ext e))]
  · intro hx
    exact absurd (Finset.mem_univ _) hx

theorem gate0 (i : grid0.Coords) (x3 : Vec Ideal S512x128 .f32) (r : Fin 512) :
    k0_pay18 i x3 (ix2 r 0) = x3 (ix2 r (gateLane i 0)) := by
  pointwise [k0_pay18, k0_pay15]
  exact gate_sum i 0 x3 r

theorem q0_key (i : grid0.Coords) (x0 : Vec Ideal S512x128 .bf16) (x3 : Vec Ideal S512x128 .f32) (r : Fin 512) (e : Fin 128) :
    q0 i x0 x3 (ix2 r ⟨e.val, by omega⟩) = if e.val < 64 then x0 (ix2 r e) else 0 := by
  pointwise [q0, k0_pay23, k0_pay16]
  rw [low_apply, pick_low]

theorem q1_key (i : grid0.Coords) (x0 : Vec Ideal S512x128 .bf16) (x3 : Vec Ideal S512x128 .f32) (r : Fin 512) (e : Fin 128) :
    q1 i x0 x3 (ix2 r ⟨e.val, by omega⟩) = if e.val < 64 then 0 else x0 (ix2 r e) := by
  pointwise [q1, k0_pay26, k0_pay16]
  rw [low_apply]
  by_cases h : e.val < 64
  · rw [if_pos h, decide_eq_true h]
    rfl
  · rw [if_neg h, decide_eq_false h]
    rfl

theorem q0_ext (i : grid0.Coords) (x0 : Vec Ideal S512x128 .bf16) (x3 : Vec Ideal S512x128 .f32) (r : Fin 512) (e : Fin 128)
    {g : ℝ} (hg : x3 (ix2 r (gateLane i 0)) = (g : EReal)) :
    q0 i x0 x3 (ix2 r ⟨128 + e.val, by omega⟩)
      = if 3 ≤ e.val ∧ e.val < 6 then 1 else if e.val = 0 then (g : EReal) else 0 := by
  have he : e.val < 2 ^ 31 := by omega
  pointwise [q0, k0_pay23, k0_pay16, k0_pay15, k0_pay20, k0_pay21, k0_pay22, k0_pay19]
  rw [gate0, hg, sub_self_real, pick_between he 3 6 (by decide) (by decide), pick_eq he 0 (by decide),
    pick_eq he 1 (by decide), pick_eq he 2 (by decide)]
  simp only [sub_zero, ite_self]

theorem q1_ext (i : grid0.Coords) (x0 : Vec Ideal S512x128 .bf16) (x3 : Vec Ideal S512x128 .f32) (r : Fin 512) (e : Fin 128)
    {g : ℝ} (hg : x3 (ix2 r (gateLane i 1)) = (g : EReal)) :
    q1 i x0 x3 (ix2 r ⟨128 + e.val, by omega⟩)
      = if 6 ≤ e.val ∧ e.val < 9 then 1 else if e.val = 0 then (g : EReal) else 0 := by
  have he : e.val < 2 ^ 31 := by omega
  have hs := (gate_sum i 1 x3 r).trans hg
  pointwise [q1, g1, k0_pay26, k0_pay16, k0_pay15, k0_pay25, k0_pay24]
  simp only [Fin.val_one] at hs
  rw [hs, sub_self_real, pick_between he 6 9 (by decide) (by decide), pick_eq he 0 (by decide),
    pick_eq he 1 (by decide), pick_eq he 2 (by decide)]
  simp only [sub_zero, ite_self]

/-! ## The scores -/

/-- The gate columns against the gate rows, head 0 at rows 3 to 5 and head 1 at rows 6 to 8. -/
theorem ext_sum (g a b : ℝ) (h : Fin 2) :
    (∑ e : Fin 128, (if 3 + 3 * h.val ≤ e.val ∧ e.val < 6 + 3 * h.val then 1 else if e.val = 0 then (g : EReal) else 0)
        * (if e.val = 3 then -(a : EReal) else if e.val = 6 then -(b : EReal) else if e.val < 3 then 1 else 0))
      = (g : EReal) - (if h.val = 0 then a else b : ℝ) := by
  have hh := h.isLt
  have e1 (e : Fin 128) :
      (if 3 + 3 * h.val ≤ e.val ∧ e.val < 6 + 3 * h.val then 1 else if e.val = 0 then (g : EReal) else 0)
        * (if e.val = 3 then -(a : EReal) else if e.val = 6 then -(b : EReal) else if e.val < 3 then 1 else 0)
      = (if e = 0 then (g : EReal) else 0)
        + (if e = ⟨3 + 3 * h.val, by omega⟩ then -((if h.val = 0 then a else b : ℝ) : EReal) else 0) := by
    simp only [Fin.ext_iff, Fin.val_zero]
    split_ifs <;> first | omega | simp
  rw [Finset.sum_congr rfl fun e _ => e1 e, Finset.sum_add_distrib, Finset.sum_ite_eq', Finset.sum_ite_eq',
    if_pos (Finset.mem_univ _), if_pos (Finset.mem_univ _), sub_eq_add_neg]

theorem score0 (i : grid0.Coords) (x0 : Vec Ideal S512x128 .bf16) (x1 : Vec Ideal S1x128x8192 .f32)
    (x3 : Vec Ideal S512x128 .f32) (r0 r1 : Vec Ideal S1x8192 .f32) (r : Fin 512) (j : Fin 8192) {g a b : ℝ}
    (hg : x3 (ix2 r (gateLane i 0)) = (g : EReal)) (ha : r0 (ix2 0 j) = (a : EReal)) (hb : r1 (ix2 0 j) = (b : EReal)) :
    (∑ x : Fin 256, q0 i x0 x3 (ix2 r x) * kaug x1 r0 r1 (ix2 x j) : EReal)
      = (∑ d : Fin 64, (x0 (ix2 r ⟨d.val, by omega⟩) : EReal) * x1 (ix3 0 ⟨d.val, by omega⟩ j)) + ((g : EReal) - (a : EReal)) := by
  rw [Fin.sum_univ_two_halves 128 128 rfl]
  refine congrArg₂ (· + ·) ?_ ?_
  · rw [Fin.sum_univ_two_halves 64 64 rfl]
    refine Eq.trans (congrArg₂ (· + ·) (Finset.sum_congr rfl fun d _ => ?_) (Finset.sum_eq_zero fun d _ => ?_)) (add_zero _)
    · have hq := q0_key i x0 x3 r ⟨d.val, by omega⟩
      rw [if_pos d.isLt] at hq
      exact congrArg₂ (· * ·) hq (kaug_keys x1 r0 r1 ⟨d.val, by omega⟩ j)
    · have hq := q0_key i x0 x3 r ⟨64 + d.val, by omega⟩
      rw [if_neg (by simp)] at hq
      exact (congrArg₂ (· * ·) hq rfl).trans (zero_mul _)
  · exact (Finset.sum_congr rfl fun e _ => congrArg₂ (· * ·) (q0_ext i x0 x3 r e hg) (kaug_ext x1 r0 r1 e j ha hb)).trans
      (ext_sum g a b 0)

theorem score1 (i : grid0.Coords) (x0 : Vec Ideal S512x128 .bf16) (x1 : Vec Ideal S1x128x8192 .f32)
    (x3 : Vec Ideal S512x128 .f32) (r0 r1 : Vec Ideal S1x8192 .f32) (r : Fin 512) (j : Fin 8192) {g a b : ℝ}
    (hg : x3 (ix2 r (gateLane i 1)) = (g : EReal)) (ha : r0 (ix2 0 j) = (a : EReal)) (hb : r1 (ix2 0 j) = (b : EReal)) :
    (∑ x : Fin 256, q1 i x0 x3 (ix2 r x) * kaug x1 r0 r1 (ix2 x j) : EReal)
      = (∑ d : Fin 64, (x0 (ix2 r ⟨64 + d.val, by omega⟩) : EReal) * x1 (ix3 0 ⟨64 + d.val, by omega⟩ j)) + ((g : EReal) - (b : EReal)) := by
  rw [Fin.sum_univ_two_halves 128 128 rfl]
  refine congrArg₂ (· + ·) ?_ ?_
  · rw [Fin.sum_univ_two_halves 64 64 rfl]
    refine Eq.trans (congrArg₂ (· + ·) (Finset.sum_eq_zero fun d _ => ?_) (Finset.sum_congr rfl fun d _ => ?_)) (zero_add _)
    · have hq := q1_key i x0 x3 r ⟨d.val, by omega⟩
      rw [if_pos d.isLt] at hq
      exact (congrArg₂ (· * ·) hq rfl).trans (zero_mul _)
    · have hq := q1_key i x0 x3 r ⟨64 + d.val, by omega⟩
      rw [if_neg (by simp)] at hq
      exact congrArg₂ (· * ·) hq (kaug_keys x1 r0 r1 ⟨64 + d.val, by omega⟩ j)
  · exact (Finset.sum_congr rfl fun e _ => congrArg₂ (· * ·) (q1_ext i x0 x3 r e hg) (kaug_ext x1 r0 r1 e j ha hb)).trans
      (ext_sum g a b 1)

end Cert.KernelIdeal.Attn

end
-- ==== Proof.Host.lean ====
/- What the kernel's windows hold: the argument arrays, as the host lines rearrange them, read at an index. -/
module

public import proofs.«01_k».proof.Proof.Pipe
public import proofs.«01_k».proof.Proof.Finite
public import proofs.«01_k».proof.Proof.Stored
public import proofs.«01_k».proof.Proof.Rows
public import Idealize.ShloMosaic.Lib.Pipeline.ValueKit
public import Idealize.ShloMosaic.Lib.Claim
public import Idealize.ShloMosaic.Lib.StableHlo.RunRead

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ)

/-- The scaled queries, one row per batch row and position. -/
def queryRows (q : FVec Ideal S4x8192x8x64 .f32) : FVec Ideal S32768x512 .bf16 :=
  truncf .bf16 (mulf (shapeCast S32768x512 q shapeCasts_S4x8192x8x64_S32768x512)
    (broadcastInDim S32768x512 ![] bcast_S_S32768x512 (constant (F := Ideal) S_ .f32 0x3E000000#32))) bitsLt_bf16_f32

/-- Keys, or values, one row per head and coordinate. -/
def headRows (k : FVec Ideal S4x8192x8x64 .f32) : FVec Ideal S4x512x8192 .f32 :=
  shapeCast S4x512x8192 (transpose S4x8x64x8192 [0, 2, 3, 1] k transposes_S4x8192x8x64_S4x8x64x8192_0_2_3_1)
    shapeCasts_S4x8x64x8192_S4x512x8192

/-- The summed gates in lanes 40 to 47. -/
def gateRows (g : FVec Ideal S4x8192x8 .f32) : FVec Ideal S32768x128 .f32 :=
  pad S32768x128 ![0, 40] ![0, 80] ![0, 0] (shapeCast S32768x8 g shapeCasts_S4x8192x8_S32768x8)
    (sitofp .f32 (constantI S_ 32 0#32)) pads_S32768x8_S32768x128_000_40800 h_S_

theorem V_v3 (c : Dev nD) : V m c main_v3 = queryRows (m ((c : Thread nD τ).loc main_arg0)) := by
  after_reads_simp; rfl
theorem V_v8 (c : Dev nD) : V m c main_v8 = headRows (m ((c : Thread nD τ).loc main_arg1)) := by
  after_reads_simp; rfl
theorem V_v10 (c : Dev nD) : V m c main_v10 = headRows (m ((c : Thread nD τ).loc main_arg2)) := by
  after_reads_simp; rfl
theorem V_v6 (c : Dev nD) : V m c main_v6 = gateRows (Cert.ReferenceIdeal.Ref.gates (m ((c : Thread nD τ).loc main_arg3))) := by
  after_reads_simp; rfl
theorem V_v11 (c : Dev nD) : V m c main_v11 = transpose S128x32768 [1, 0] (gateRows (Cert.ReferenceIdeal.Ref.gates (m ((c : Thread nD τ).loc main_arg3)))) transposes_S32768x128_S128x32768_1_0 := by
  after_reads_simp; rfl

/-! ## The rearranged arrays at an index -/

theorem queryRows_apply (q : FVec Ideal S4x8192x8x64 .f32) (b : Fin 4) (i : Fin 8192) (h : Fin 8) (d : Fin 64)
    (r : Fin 32768) (c : Fin 512) (hr : r.val = 8192 * b.val + i.val) (hc : c.val = 64 * h.val + d.val) :
    (queryRows q (ix2 r c) : EReal) = q (ix4 b i h d) * Ideal.ofBits .f32 1040187392#32 := by
  have hb : r.val / 8192 = b.val := by omega
  have hi : r.val % 8192 = i.val := by omega
  have hh : c.val / 64 = h.val := by omega
  have hd : c.val % 64 = d.val := by omega
  pointwise [queryRows]
  congr 2
  simp only [hb, hi, hh, hd]

theorem headRows_apply (k : FVec Ideal S4x8192x8x64 .f32) (b : Fin 4) (j : Fin 8192) (h : Fin 8) (d : Fin 64)
    (c : Fin 512) (hc : c.val = 64 * h.val + d.val) :
    (headRows k (ix3 b c j) : EReal) = k (ix4 b j h d) := by
  have hh : c.val / 64 = h.val := by omega
  have hd : c.val % 64 = d.val := by omega
  pointwise [headRows]
  congr 1
  simp only [hh, hd]

theorem gateRows_apply (g : FVec Ideal S4x8192x8 .f32) (b : Fin 4) (i : Fin 8192) (h : Fin 8)
    (r : Fin 32768) (l : Fin 128) (hr : r.val = 8192 * b.val + i.val) (hl : l.val = 40 + h.val) :
    (gateRows g (ix2 r l) : EReal) = g (ix3 b i h) := by
  have hb : r.val / 8192 = b.val := by omega
  have hi : r.val % 8192 = i.val := by omega
  have hl' : l.val - 40 = h.val := by omega
  pointwise [gateRows]
  rw [dif_pos ⟨by omega, by omega⟩]
  congr 1
  simp only [hb, hi, hl']

/-! ## The windows at an index -/

theorem idx : ∀ t : Fin cfg0.N,
    win0_0.index t = ![16 * (t.val / 64) + t.val % 16, t.val / 16 % 4] ∧ win0_1.index t = ![t.val / 64, t.val / 16 % 4, 0]
      ∧ win0_2.index t = ![t.val / 64, t.val / 16 % 4, 0] ∧ win0_3.index t = ![16 * (t.val / 64) + t.val % 16, 0]
      ∧ win0_4.index t = ![5, t.val / 64] ∧ win0_5.index t = ![16 * (t.val / 64) + t.val % 16, t.val / 16 % 4] :=
  (by decide +kernel : ∀ t : Fin grid0.N, _)

theorem win0_at (c : Dev nD) (t : Fin cfg0.N) (r : Fin 512) (x : Fin 128) (R : Fin 32768) (C : Fin 512)
    (hR : R.val = 512 * (16 * (t.val / 64) + t.val % 16) + r.val) (hC : C.val = 128 * (t.val / 16 % 4) + x.val) :
    (iblk m c 0 t (ix2 r x) : EReal) = queryRows (m ((c : Thread nD τ).loc main_arg0)) (ix2 R C) := by
  blk_simp [iblk, idx t]
  rw [V_v3]
  congr 1
  blk_ext [idx t]

theorem win1_at (c : Dev nD) (t : Fin cfg0.N) (x : Fin 128) (j : Fin 8192) (b : Fin 4) (C : Fin 512)
    (hb : b.val = t.val / 64) (hC : C.val = 128 * (t.val / 16 % 4) + x.val) :
    (iblk m c 1 t (ix3 0 x j) : EReal) = headRows (m ((c : Thread nD τ).loc main_arg1)) (ix3 b C j) := by
  blk_simp [iblk, idx t]
  rw [V_v8]
  congr 1
  blk_ext [idx t]

theorem win2_at (c : Dev nD) (t : Fin cfg0.N) (x : Fin 128) (j : Fin 8192) (b : Fin 4) (C : Fin 512)
    (hb : b.val = t.val / 64) (hC : C.val = 128 * (t.val / 16 % 4) + x.val) :
    (iblk m c 2 t (ix3 0 x j) : EReal) = headRows (m ((c : Thread nD τ).loc main_arg2)) (ix3 b C j) := by
  blk_simp [iblk, idx t]
  rw [V_v10]
  congr 1
  blk_ext [idx t]

theorem win3_at (c : Dev nD) (t : Fin cfg0.N) (r : Fin 512) (l : Fin 128) (R : Fin 32768)
    (hR : R.val = 512 * (16 * (t.val / 64) + t.val % 16) + r.val) :
    (iblk m c 3 t (ix2 r l) : EReal) = gateRows (Cert.ReferenceIdeal.Ref.gates (m ((c : Thread nD τ).loc main_arg3))) (ix2 R l) := by
  blk_simp [iblk, idx t]
  rw [V_v6]
  congr 1
  blk_ext [idx t]

theorem win4_at (c : Dev nD) (t : Fin cfg0.N) (e : Fin 8) (j : Fin 8192) (R : Fin 32768) (l : Fin 128)
    (hR : R.val = 8192 * (t.val / 64) + j.val) (hl : l.val = 40 + e.val) :
    (iblk m c 4 t (ix2 e j) : EReal)
      = gateRows (Cert.ReferenceIdeal.Ref.gates (m ((c : Thread nD τ).loc main_arg3))) (ix2 R l) := by
  blk_simp [iblk, idx t]
  rw [V_v11]
  have e1 : (win0_4.blk t).view.emb (ix2 e j) = ix2 l R := by blk_ext [idx t]
  rw [e1]
  pointwise

/-! ## The same, at the arguments -/

/-- The arguments on device `c`. -/
abbrev argQ (c : Dev nD) : FVec Ideal S4x8192x8x64 .f32 := m ((c : Thread nD τ).loc main_arg0)
abbrev argK (c : Dev nD) : FVec Ideal S4x8192x8x64 .f32 := m ((c : Thread nD τ).loc main_arg1)
abbrev argV (c : Dev nD) : FVec Ideal S4x8192x8x64 .f32 := m ((c : Thread nD τ).loc main_arg2)
/-- The summed gates on device `c`. -/
abbrev argG (c : Dev nD) : FVec Ideal S4x8192x8 .f32 := Cert.ReferenceIdeal.Ref.gates (m ((c : Thread nD τ).loc main_arg3))

/-- The batch row of point `t`, the position of its row `r`, and the two heads it serves. -/
def bat (t : Fin cfg0.N) : Fin 4 := ⟨t.val / 64, by have := points; omega⟩
def pos (t : Fin cfg0.N) (r : Fin 512) : Fin 8192 := ⟨512 * (t.val % 16) + r.val, by omega⟩
def hd (t : Fin cfg0.N) (h : Fin 2) : Fin 8 := ⟨2 * (t.val / 16 % 4) + h.val, by omega⟩

theorem bat_first (t : Fin cfg0.N) : bat (first t.val) = bat t :=
  Fin.ext (by have := points; have := t.isLt; show 16 * (t.val / 16 % 16) / 64 = t.val / 64; omega)
theorem hd_first (t : Fin cfg0.N) (h : Fin 2) : hd (first t.val) h = hd t h :=
  Fin.ext (by have := points; have := t.isLt; show 2 * (16 * (t.val / 16 % 16) / 16 % 4) + h.val = 2 * (t.val / 16 % 4) + h.val; omega)

theorem gateLane_val (t : Fin cfg0.N) (h : Fin 2) : (gateLane (grid0.coords t) h).val = 40 + (hd t h).val := by
  have := (at_point t).2.1
  simp only [gateLane, hd, this]
  omega

theorem query_at (c : Dev nD) (t : Fin cfg0.N) (r : Fin 512) (x : Fin 128) (h : Fin 2) (d : Fin 64) (hx : x.val = 64 * h.val + d.val) :
    (iblk m c 0 t (ix2 r x) : EReal)
      = argQ m c (ix4 (bat t) (pos t r) (hd t h) d) * Ideal.ofBits .f32 1040187392#32 := by
  have hN := points
  rw [win0_at m c t r x ⟨512 * (16 * (t.val / 64) + t.val % 16) + r.val, by omega⟩
    ⟨128 * (t.val / 16 % 4) + x.val, by omega⟩ rfl rfl]
  exact queryRows_apply _ _ _ _ _ _ _ (by simp only [bat, pos]; omega) (by simp only [hd]; omega)

theorem key_at (c : Dev nD) (t : Fin cfg0.N) (x : Fin 128) (j : Fin 8192) (h : Fin 2) (d : Fin 64) (hx : x.val = 64 * h.val + d.val) :
    (iblk m c 1 t (ix3 0 x j) : EReal) = argK m c (ix4 (bat t) j (hd t h) d) := by
  rw [win1_at m c t x j (bat t) ⟨128 * (t.val / 16 % 4) + x.val, by omega⟩ rfl rfl]
  exact headRows_apply _ _ _ _ _ _ (by simp only [hd]; omega)

theorem value_at (c : Dev nD) (t : Fin cfg0.N) (x : Fin 128) (j : Fin 8192) (h : Fin 2) (d : Fin 64) (hx : x.val = 64 * h.val + d.val) :
    (iblk m c 2 t (ix3 0 x j) : EReal) = argV m c (ix4 (bat t) j (hd t h) d) := by
  rw [win2_at m c t x j (bat t) ⟨128 * (t.val / 16 % 4) + x.val, by omega⟩ rfl rfl]
  exact headRows_apply _ _ _ _ _ _ (by simp only [hd]; omega)

theorem gate_at (c : Dev nD) (t : Fin cfg0.N) (r : Fin 512) (h : Fin 2) :
    (iblk m c 3 t (ix2 r (gateLane (grid0.coords t) h)) : EReal)
      = argG m c (ix3 (bat t) (pos t r) (hd t h)) := by
  have hN := points
  rw [win3_at m c t r _ ⟨512 * (16 * (t.val / 64) + t.val % 16) + r.val, by omega⟩ rfl]
  exact gateRows_apply _ _ _ _ _ _ (by simp only [bat, pos]; omega) (gateLane_val t h)

theorem keyGate_at (c : Dev nD) (t : Fin cfg0.N) (j : Fin 8192) (h : Fin 2) (e : Fin 8) (he : e.val = 2 * (t.val / 16 % 4) + h.val) :
    (iblk m c 4 t (ix2 e j) : EReal)
      = argG m c (ix3 (bat t) j (hd t h)) := by
  have hN := points
  rw [win4_at m c t e j ⟨8192 * (t.val / 64) + j.val, by omega⟩ ⟨40 + e.val, by omega⟩ rfl rfl]
  exact gateRows_apply _ _ _ _ _ _ (by simp only [bat]) (by simp only [hd]; omega)

theorem keyRow0_at (c : Dev nD) (t : Fin cfg0.N) (h : k0_cond1 (grid0.coords t) = 1#1) (j : Fin 8192) :
    (keyRow0 (grid0.coords t) h (iblk m c 4 t) (ix2 0 j) : EReal)
      = argG m c (ix3 (bat t) j (hd t 0)) := by
  have e := k0_off1_eq (grid0.coords t) 0
  rw [(at_point t).2.1] at e
  have e0 : k0_off1 (grid0.coords t) (0#32) 0 = 2 * (t.val / 16 % 4) + 0 := congrFun e 0
  have e1 : k0_off1 (grid0.coords t) (0#32) 1 = 0 := congrFun e 1
  rw [← keyGate_at m c t j 0 ⟨2 * (t.val / 16 % 4) + 0, by omega⟩ rfl]
  unfold keyRow0
  pointwise
  congr 1
  exact congrArg₂ ix2 (Fin.ext e0) (Fin.ext (by show k0_off1 (grid0.coords t) (0#32) 1 + j.val = j.val; omega))

theorem keyRow1_at (c : Dev nD) (t : Fin cfg0.N) (h : k0_cond1 (grid0.coords t) = 1#1) (j : Fin 8192) :
    (keyRow1 (grid0.coords t) h (iblk m c 4 t) (ix2 0 j) : EReal)
      = argG m c (ix3 (bat t) j (hd t 1)) := by
  have e := k0_off1_eq (grid0.coords t) 1
  rw [(at_point t).2.1] at e
  have e0 : k0_off1 (grid0.coords t) (1#32) 0 = 2 * (t.val / 16 % 4) + 1 := congrFun e 0
  have e1 : k0_off1 (grid0.coords t) (1#32) 1 = 0 := congrFun e 1
  rw [← keyGate_at m c t j 1 ⟨2 * (t.val / 16 % 4) + 1, by omega⟩ rfl]
  unfold keyRow1
  pointwise
  congr 1
  exact congrArg₂ ix2 (Fin.ext e0) (Fin.ext (by show k0_off1 (grid0.coords t) (1#32) 1 + j.val = j.val; omega))

end Cert.KernelIdeal.Attn

end
-- ==== Proof.Result.lean ====
/- The attention the grid stores is the reference's: at each point the stored block, read off the windows, is the
   reference's weighted mean at the block's place in the array. -/
module

public import proofs.«01_k».proof.Proof.Host

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.Online (top num den Tame)
open Cert.ReferenceIdeal.Ref (Real row row_val masked masked_apply REF REF_apply gates gates_real facts_of_finite)

/-- The scale of the scores. -/
theorem scale_eq : Ideal.ofBits .f32 1040187392#32 = (((1 : ℝ) / 8 : ℝ) : EReal) := by
  simp [Ideal.ofBits, Ideal.ieee, -EReal.coe_mul]; norm_num

/-- Scaling the query first is scaling the product. -/
theorem scaled_sum {n : ℕ} (q k : Fin n → EReal) :
    (∑ d, q d * Ideal.ofBits .f32 1040187392#32 * k d) = (∑ d, q d * k d) * Ideal.ofBits .f32 1040187392#32 := by
  rw [scale_eq, mul_comm (∑ d, q d * k d), Cert.Online.mul_sum_real _ _ (by norm_num : (0 : ℝ) ≤ 1 / 8)]
  exact Finset.sum_congr rfl fun d _ => by rw [mul_comm (q d), mul_assoc]

theorem sum_coe {n : ℕ} (f : Fin n → EReal) (hf : ∀ d, ∃ a : ℝ, f d = (a : EReal)) : ∃ a : ℝ, ∑ d, f d = (a : EReal) := by
  choose g hg using hf
  refine ⟨∑ d, g d, ?_⟩
  simp only [hg]
  induction (Finset.univ : Finset (Fin n)) using Finset.induction_on with
  | empty => simp
  | insert x S hx ih => rw [Finset.sum_insert hx, Finset.sum_insert hx, ih, EReal.coe_add]

/-- A row of scores of finite queries, keys and gates is finite up to its own position. -/
theorem row_real (q k : FVec Ideal S4x8192x8x64 .f32) (g : FVec Ideal S4x8192x8 .f32) (hq : Real q) (hk : Real k) (hg : Real g)
    (b : Fin 4) (h : Fin 8) (i j : Fin 8192) (hj : j.val ≤ i.val) : ∃ a : ℝ, row q k g b h i j.val = (a : EReal) := by
  rw [row_val, masked_apply, if_pos hj, scale_eq]
  obtain ⟨s, hs⟩ := sum_coe (fun x => (q (ix4 b i h x) : EReal) * k (ix4 b j h x)) (fun x => by
    obtain ⟨y, hy⟩ := hq (ix4 b i h x)
    obtain ⟨z, hz⟩ := hk (ix4 b j h x)
    exact ⟨y * z, by rw [hy, hz, EReal.coe_mul]⟩)
  obtain ⟨u, hu⟩ := hg (ix3 b i h)
  obtain ⟨w, hw⟩ := hg (ix3 b j h)
  exact ⟨s * (1 / 8) + (u - w), by rw [hs, hu, hw, EReal.coe_add, EReal.coe_mul, EReal.coe_sub]⟩

theorem row_bot (q k : FVec Ideal S4x8192x8x64 .f32) (g : FVec Ideal S4x8192x8 .f32) (b : Fin 4) (h : Fin 8) (i : Fin 8192)
    (j : ℕ) (hj : i.val < j) : row q k g b h i j = ⊥ := by
  by_cases hb : j < 8192
  · have := row_val q k g b h i ⟨j, hb⟩
    rw [masked_apply, if_neg (by show ¬ j ≤ i.val; omega)] at this
    exact this
  · rw [row, dif_neg hb]

theorem row_tame (q k : FVec Ideal S4x8192x8x64 .f32) (g : FVec Ideal S4x8192x8 .f32) (hq : Real q) (hk : Real k) (hg : Real g)
    (b : Fin 4) (h : Fin 8) (i : Fin 8192) : Tame (row q k g b h i) := by
  refine ⟨fun j => ?_, ?_⟩
  · by_cases hj : j ≤ i.val
    · obtain ⟨a, ha⟩ := row_real q k g hq hk hg b h i ⟨j, by omega⟩ hj
      exact ha ▸ EReal.coe_ne_top a
    · rw [row_bot q k g b h i j (by omega)]
      exact bot_ne_top
  · obtain ⟨a, ha⟩ := row_real q k g hq hk hg b h i 0 (Nat.zero_le _)
    exact ha ▸ EReal.coe_ne_bot a

variable (m : (ℓ : Loc nD τ sig) → Buf (Elt Ideal) ℓ) (c : Dev nD)

/-- The scores of row `r` of point `t`, at one of its two heads. -/
abbrev scoreRow (t : Fin cfg0.N) (h : Fin 2) (r : Fin 512) : ℕ → EReal :=
  row (argQ m c) (argK m c) (argG m c) (bat t) (hd t h) (pos t r)

/-- The values in lane `l` of point `t`. -/
def valRow (t : Fin cfg0.N) (l : Fin 128) : ℕ → EReal := fun j =>
  if hj : j < 8192 then argV m c (ix4 (bat t) ⟨j, hj⟩ (hd t ⟨l.val / 64, by omega⟩) ⟨l.val % 64, by omega⟩) else 0

theorem vals_row (t : Fin cfg0.N) (l : Fin 128) (j : Fin 8192) :
    (vals m c t.val (ix2 (lane l) j) : EReal) = valRow m c t l j.val := by
  rw [vals, valsAt, vaug_vals, value_at m c _ l j ⟨l.val / 64, by omega⟩ ⟨l.val % 64, by omega⟩ (by simp only; omega),
    bat_first, hd_first, valRow, dif_pos j.isLt]

section
variable (hQ : Real (argQ m c)) (hK : Real (argK m c)) (hG : Real (argG m c))
include hG

theorem scores0 (t : Fin cfg0.N) (r : Fin 512) (j : Fin 8192) (hj : j.val ≤ 512 * (t.val % 16) + r.val) :
    (∑ x : Fin 256, q0 (grid0.coords t) (iblk m c 0 t) (iblk m c 3 t) (ix2 r x) * keys m c t.val (ix2 x j) : EReal)
      = scoreRow m c t 0 r j.val := by
  obtain ⟨g, hg⟩ := hG (ix3 (bat t) (pos t r) (hd t 0))
  obtain ⟨a, ha⟩ := hG (ix3 (bat t) j (hd t 0))
  obtain ⟨b, hb⟩ := hG (ix3 (bat t) j (hd t 1))
  rw [keys, keysAt, score0 (g := g) (a := a) (b := b) _ _ _ _ _ _ r j ((gate_at m c t r 0).trans hg)
      ((keyRow0_at m c _ _ j).trans (by rw [bat_first, hd_first, ha]))
      ((keyRow1_at m c _ _ j).trans (by rw [bat_first, hd_first, hb])),
    scoreRow, row_val, masked_apply, if_pos (show j.val ≤ (pos t r).val from hj), hg, ha, ← scaled_sum]
  refine congrArg₂ HAdd.hAdd (Finset.sum_congr rfl fun d _ => ?_) (Eq.refl _)
  rw [query_at m c t r _ 0 d (by simp), key_at m c _ _ j 0 d (by simp), bat_first, hd_first]

theorem scores1 (t : Fin cfg0.N) (r : Fin 512) (j : Fin 8192) (hj : j.val ≤ 512 * (t.val % 16) + r.val) :
    (∑ x : Fin 256, q1 (grid0.coords t) (iblk m c 0 t) (iblk m c 3 t) (ix2 r x) * keys m c t.val (ix2 x j) : EReal)
      = scoreRow m c t 1 r j.val := by
  obtain ⟨g, hg⟩ := hG (ix3 (bat t) (pos t r) (hd t 1))
  obtain ⟨a, ha⟩ := hG (ix3 (bat t) j (hd t 0))
  obtain ⟨b, hb⟩ := hG (ix3 (bat t) j (hd t 1))
  rw [keys, keysAt, score1 (g := g) (a := a) (b := b) _ _ _ _ _ _ r j ((gate_at m c t r 1).trans hg)
      ((keyRow0_at m c _ _ j).trans (by rw [bat_first, hd_first, ha]))
      ((keyRow1_at m c _ _ j).trans (by rw [bat_first, hd_first, hb])),
    scoreRow, row_val, masked_apply, if_pos (show j.val ≤ (pos t r).val from hj), hg, hb, ← scaled_sum]
  refine congrArg₂ HAdd.hAdd (Finset.sum_congr rfl fun d _ => ?_) (Eq.refl _)
  rw [query_at m c t r _ 1 d (by simp), key_at m c _ _ j 1 d (by simp), bat_first, hd_first]

include hQ hK
/-- The block point `t` stores is the reference's, at the block's rows and columns. -/
theorem block_eq (t : Fin cfg0.N) (r : Fin 512) (l : Fin 128) (R : Fin 32768) (C : Fin 512)
    (hR : R.val = 512 * (16 * (t.val / 64) + t.val % 16) + r.val) (hC : C.val = 128 * (t.val / 16 % 4) + l.val) :
    (stored (F := Ideal) (grid0.coords t) (iblk m c 0 t) (iblk m c 3 t) (keys m c t.val) (vals m c t.val) (ix2 r l) : EReal)
      = REF (argQ m c) (argK m c) (argV m c) (argG m c) (ix2 R C) := by
  have hT (h : Fin 2) (r : Fin 512) : Tame (scoreRow m c t h r) := row_tame _ _ _ hQ hK hG _ _ _
  have hB (h : Fin 2) (r : Fin 512) (j : ℕ) (hj : 512 * (t.val % 16) + r.val < j) : scoreRow m c t h r j = ⊥ :=
    row_bot _ _ _ _ _ _ j hj
  have e := stored_apply t (iblk m c 0 t) (iblk m c 3 t) (keys m c t.val) (vals m c t.val) (hT 0) (hT 1)
    (scores0 m c hG t) (scores1 m c hG t) (hB 0) (hB 1) (vals_row m c t) (fun j => vaug_ones _ j) r l
  refine e.trans ?_
  have hs : (if l.val < 64 then scoreRow m c t 0 r else scoreRow m c t 1 r) = scoreRow m c t ⟨l.val / 64, by omega⟩ r := by
    split_ifs with h
    · exact congrArg (fun x => scoreRow m c t x r) (Fin.ext (by show 0 = l.val / 64; omega))
    · exact congrArg (fun x => scoreRow m c t x r) (Fin.ext (by show 1 = l.val / 64; omega))
  rw [hs, Cert.Online.quotient (hT _ _) (valRow m c t l) (T := 8192) (by omega) (by omega)
      (fun j h1 _ => hB _ _ j (by omega)),
    REF_apply _ _ _ _ (bat t) (hd t ⟨l.val / 64, by omega⟩) ⟨l.val % 64, by omega⟩ (pos t r) R C
      (by simp only [bat, pos]; omega) (by simp only [hd]; omega)]
  refine Finset.sum_congr rfl fun j _ => ?_
  rw [valRow, dif_pos j.isLt]

end

/-- The result array, after the whole grid, is the reference's attention. -/
theorem final [Cert.Pre_finite.Facts]
    (hf : Cert.Pre_finite.fn (F := Ideal) (argQ m c) (argK m c) (argV m c) (m ((c : Thread nD τ).loc main_arg3)) = fun _ => 1#1) :
    (dats m 0 c).arrAt 5 (cfgs 0).N = REF (argQ m c) (argK m c) (argV m c) (argG m c) := by
  obtain ⟨hQ, hK, hL⟩ := facts_of_finite _ _ _ _ hf
  have hG := gates_real _ hL
  refine (dats m 0 c).arrAt_eq_of_covers 5 _ (by decide +kernel) fun t _ y => ?_
  blk_simp
  rw [after0_5]
  idx_vars y
  have hN := points
  have ht : t.val < 256 := hN ▸ t.isLt
  have e : ((View.whole main_v12).slice (win0_5.rect t)).emb (ix2 y0 y1)
      = ix2 ⟨512 * (16 * (t.val / 64) + t.val % 16) + y0.val, by omega⟩ ⟨128 * (t.val / 16 % 4) + y1.val, by omega⟩ := by
    blk_ext [idx t]
  rw [e]
  exact block_eq m c hQ hK hG t y0 y1 _ _ rfl rfl

end Cert.KernelIdeal.Attn

end
-- ==== Proof.lean ====
/- The claims of forgetting attention over the prompt: the kernel's two frames are one run, the
   reference's frame is the run of its host operations, and the value is read off the two runs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Mlp
public import proofs.«01_k».proof.Proof.Gen.MlpIdeal.Value
public import proofs.«01_k».proof.Proof.Gen.MlpReferenceIdeal.Run
public import proofs.«01_k».proof.Proof.Gen.Merge
public import proofs.«01_k».proof.Proof.Gen.MergeIdeal.Value
public import proofs.«01_k».proof.Proof.Gen.MergeReferenceIdeal.Run
public import proofs.«01_k».proof.Proof.Gen.Inproj
public import proofs.«01_k».proof.Proof.Gen.InprojIdeal.Value
public import proofs.«01_k».proof.Proof.Gen.InprojReferenceIdeal.Run
public import proofs.«01_k».proof.Proof.Pipe
public import proofs.«01_k».proof.Proof.MlpClaims
public import proofs.«01_k».proof.Proof.MergeClaims
public import proofs.«01_k».proof.Proof.InprojClaims
public import proofs.«01_k».proof.Proof.Result
public import Idealize.ShloMosaic.PureOps.BitExact
public import Idealize.ShloMosaic.Lib.Claim

@[expose] public section

noncomputable section

namespace Cert.Proof

open Idealize.ShloMosaic Idealize.SL.Sem

/-- What the precondition's own operations ask of its shapes. -/
instance finite_facts : Cert.Pre_finite.Facts where
  bcast_S_S4x8192x8x64 := by decide
  reducesTo_S4x8192x8x64_S_d0_1_2_3 := by decide
  h_S_ := by decide
  bcast_S_S4x8192x8 := by decide
  reducesTo_S4x8192x8_S_d0_1_2 := by decide

/-- The two texts' body tables are one table: one body at the one label. -/
theorem bodies_eq : Cert.Kernel.defs₀ (F := Bits) = Cert.KernelIdeal.defs₀ (F := Bits) := by
  funext p
  match p with
  | .tc =>
    funext l a
    match l, a with
    | 0, (t, s) => rfl
    | ⟨_ + 1, h⟩, _ => exact absurd h (Nat.not_lt.2 (Nat.le_add_left _ _))
  | .scScalar _ => rfl
  | .scVector _ _ => rfl

theorem defs_eq : Cert.Kernel.defs (F := Bits) = Cert.KernelIdeal.defs (F := Bits) :=
  congrArg (fun D => Pipeline.defs (Cert.KernelIdeal.pcfgs (F := Bits)) D) bodies_eq

/-- The kernel as printed and the kernel over the extended reals are one text: one run serves both. -/
theorem frame_kernel : Cert.quiescent_Kernel := by
  intro m ρ _
  have h := Cert.KernelIdeal.Attn.run_args (F := Bits) m ρ
  rw [← defs_eq] at h
  exact h

theorem frame_ideal : Cert.quiescent_KernelIdeal := fun m ρ _ =>
  Cert.KernelIdeal.Attn.run_args (F := Ideal) m ρ

theorem frame_ideal_finite : Cert.quiescent_KernelIdeal_pre_finite := fun m ρ _ =>
  Cert.KernelIdeal.Attn.run_args (F := Ideal) m ρ

set_option maxHeartbeats 1600000 in
theorem frame_reference : Cert.quiescent_ReferenceIdeal := by
  intro m g _
  hlo_run
  · exact fun _ => ⟨trivial, trivial, trivial, trivial⟩
  exact sem_eq_zero_of_no_sems (by decide : Cert.ReferenceIdeal.sig.nSem + Cert.ReferenceIdeal.sig.nDmaSem = 0) _

theorem frame_reference_finite : Cert.quiescent_ReferenceIdeal_pre_finite := fun m ρ _ =>
  frame_reference m ρ trivial

open Cert.KernelIdeal in
/-- The kernel's run over the extended reals, read at its result and its arguments. -/
theorem run_result (m : (ℓ : Loc nD τ sig) → Buf (Elt Ideal) ℓ) (ρ : Dev nD → PrngReg) :
    θ_run defs (onTc (τ := τ) (main (F := Ideal))) (s₀ m ρ) (fun r => ∀ c : Dev nD,
      r.2.mem ((c.tc : Thread nD τ).loc main_v12) = (Attn.dats m 0 c).arrAt 5 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1 c).1 5, h.2.1 c⟩)
    (θ_run_and (Attn.run_main m ρ) (Attn.run_args m ρ))

set_option maxHeartbeats 1600000 in
theorem values : Cert.algebraic_KernelIdeal_ReferenceIdeal_pre_finite := by
  pair_intro
  · run_from run_result m g
  · hlo_run
    exact (Cert.KernelIdeal.Attn.final m c (hpre c)).symm

theorem claim : Cert.Claim :=
  ⟨Cert.Kernel.Gen.facts, Cert.KernelIdeal.Gen.facts, Cert.ReferenceIdeal.Gen.facts,
    Cert.Mlp.Gen.facts, Cert.MlpIdeal.Gen.facts, Cert.MlpReferenceIdeal.Gen.facts,
    Cert.Merge.Gen.facts, Cert.MergeIdeal.Gen.facts, Cert.MergeReferenceIdeal.Gen.facts,
    Cert.Inproj.Gen.facts, Cert.InprojIdeal.Gen.facts, Cert.InprojReferenceIdeal.Gen.facts, finite_facts,
    frame_kernel, frame_ideal, frame_ideal_finite, frame_reference, frame_reference_finite,
    mlp_frame, mlp_frame_ideal, mlp_frame_reference, merge_frame, merge_frame_ideal, merge_frame_reference,
    inproj_frame, inproj_frame_ideal, inproj_frame_reference,
    trivial, values, trivial, mlp_values, trivial, merge_values, trivial, inproj_values⟩

end Cert.Proof

end
